-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_in_range : Cert.Pre_finite_in_range.Facts),
    quiescent_Kernel (hKernel := hKernel)
    ∧ quiescent_KernelIdeal (hKernelIdeal := hKernelIdeal)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S128x32x64 : Shape := ⟨3, ![128, 32, 64]⟩
abbrev S128x32 : Shape := ⟨2, ![128, 32]⟩
abbrev S100000x64 : Shape := ⟨2, ![100000, 64]⟩
abbrev S100000 : Shape := ⟨1, ![100000]⟩
abbrev S_ : Shape := ⟨0, ![]⟩

class Facts : Prop where
  bcast_S_S128x32x64 : S_.BroadcastsInDim S128x32x64 (![] : Fin 0 → Fin S128x32x64.rank)
  bcast_S_S128x32 : S_.BroadcastsInDim S128x32 (![] : Fin 0 → Fin S128x32.rank)
  bcast_S_S100000x64 : S_.BroadcastsInDim S100000x64 (![] : Fin 0 → Fin S100000x64.rank)
  bcast_S_S100000 : S_.BroadcastsInDim S100000 (![] : Fin 0 → Fin S100000.rank)

variable [Facts]

def fn {F : FTy → Type} [FloatOps F] (main_arg0 : FVec F S128x32x64 .f32) (main_arg1 : IVec S128x32 32) (main_arg2 : FVec F S100000x64 .f32) (main_arg3 : FVec F S100000 .f32) : IVec S128x32x64 1 × IVec S128x32 1 × IVec S100000x64 1 × IVec S100000 1 :=
  let main_v0 : FVec F S128x32x64 .f32 := Host.absf main_arg0
  let main_cst : FVec F S_ .f32 := constant S_ .f32 0x7F800000#32
  let main_v1 : FVec F S128x32x64 .f32 := broadcastInDim S128x32x64 ![] bcast_S_S128x32x64 main_cst
  let main_v2 : IVec S128x32x64 1 := cmpf .olt main_v0 main_v1
  let main_c : IVec S_ 32 := constantI S_ 32 0#32
  let main_v3 : IVec S128x32 32 := broadcastInDim S128x32 ![] bcast_S_S128x32 main_c
  let main_v4 : IVec S128x32 1 := cmpi .sge main_arg1 main_v3
  let main_c_0 : IVec S_ 32 := constantI S_ 32 100000#32
  let main_v5 : IVec S128x32 32 := broadcastInDim S128x32 ![] bcast_S_S128x32 main_c_0
  let main_v6 : IVec S128x32 1 := cmpi .slt main_arg1 main_v5
  let main_v7 : IVec S128x32 1 := andi main_v4 main_v6
  let main_v8 : FVec F S100000x64 .f32 := Host.absf main_arg2
  let main_cst_1 : FVec F S_ .f32 := constant S_ .f32 0x7F800000#32
  let main_v9 : FVec F S100000x64 .f32 := broadcastInDim S100000x64 ![] bcast_S_S100000x64 main_cst_1
  let main_v10 : IVec S100000x64 1 := cmpf .olt main_v8 main_v9
  let main_v11 : FVec F S100000 .f32 := Host.absf main_arg3
  let main_cst_2 : FVec F S_ .f32 := constant S_ .f32 0x7F800000#32
  let main_v12 : FVec F S100000 .f32 := broadcastInDim S100000 ![] bcast_S_S100000 main_cst_2
  let main_v13 : IVec S100000 1 := cmpf .olt main_v11 main_v12
  (main_v2, main_v7, main_v10, main_v13)
-- ==== Kernel.lean ====
abbrev S128x32x64 : Shape := ⟨3, ![128, 32, 64]⟩
abbrev S128x32 : Shape := ⟨2, ![128, 32]⟩
abbrev S100000x64 : Shape := ⟨2, ![100000, 64]⟩
abbrev S100000 : Shape := ⟨1, ![100000]⟩
abbrev S4096x64 : Shape := ⟨2, ![4096, 64]⟩
abbrev S1x100000 : Shape := ⟨2, ![1, 100000]⟩
abbrev S4096x1 : Shape := ⟨2, ![4096, 1]⟩
abbrev S512x64 : Shape := ⟨2, ![512, 64]⟩
abbrev S1x512 : Shape := ⟨2, ![1, 512]⟩
abbrev S4096x512 : Shape := ⟨2, ![4096, 512]⟩
abbrev S128x512 : Shape := ⟨2, ![128, 512]⟩
abbrev S128x1 : Shape := ⟨2, ![128, 1]⟩
abbrev S128x32x512 : Shape := ⟨3, ![128, 32, 512]⟩
abbrev S128x1x512 : Shape := ⟨3, ![128, 1, 512]⟩
abbrev S4096 : Shape := ⟨1, ![4096]⟩
abbrev S4096x100000 : Shape := ⟨2, ![4096, 100000]⟩
abbrev S128x32x100000 : Shape := ⟨3, ![128, 32, 100000]⟩

abbrev nBuf : Space → Nat
  | .hbm => 11
  | .vmem => 18
  | .smem => 0
  | _ => 0

abbrev bufTy : (tb : Table) → Fin (tcTables nBuf tb) → BufTy
  | .hbm, ⟨0, _⟩ => ⟨S128x32x64, .f32⟩
  | .hbm, ⟨1, _⟩ => ⟨S128x32, .i32⟩
  | .hbm, ⟨2, _⟩ => ⟨S100000x64, .f32⟩
  | .hbm, ⟨3, _⟩ => ⟨S100000, .f32⟩
  | .hbm, ⟨4, _⟩ => ⟨S4096x64, .f32⟩
  | .hbm, ⟨5, _⟩ => ⟨S4096x64, .bf16⟩
  | .hbm, ⟨6, _⟩ => ⟨S100000x64, .bf16⟩
  | .hbm, ⟨7, _⟩ => ⟨S1x100000, .f32⟩
  | .hbm, ⟨8, _⟩ => ⟨S4096x1, .f32⟩
  | .hbm, ⟨9, _⟩ => ⟨S4096x100000, .f32⟩
  | .hbm, ⟨10, _⟩ => ⟨S128x32x100000, .f32⟩
  | .local _ .vmem, ⟨0, _⟩ => ⟨S4096x64, .bf16⟩
  | .local _ .vmem, ⟨1, _⟩ => ⟨S512x64, .bf16⟩
  | .local _ .vmem, ⟨2, _⟩ => ⟨S512x64, .bf16⟩
  | .local _ .vmem, ⟨3, _⟩ => ⟨S1x512, .f32⟩
  | .local _ .vmem, ⟨4, _⟩ => ⟨S1x512, .f32⟩
  | .local _ .vmem, ⟨5, _⟩ => ⟨S128x32, .i32⟩
  | .local _ .vmem, ⟨6, _⟩ => ⟨S4096x1, .f32⟩
  | .local _ .vmem, ⟨7, _⟩ => ⟨S4096x1, .f32⟩
  | .local _ .vmem, ⟨8, _⟩ => ⟨S4096x1, .f32⟩
  | .local _ .vmem, ⟨9, _⟩ => ⟨S4096x64, .bf16⟩
  | .local _ .vmem, ⟨10, _⟩ => ⟨S512x64, .bf16⟩
  | .local _ .vmem, ⟨11, _⟩ => ⟨S512x64, .bf16⟩
  | .local _ .vmem, ⟨12, _⟩ => ⟨S1x512, .f32⟩
  | .local _ .vmem, ⟨13, _⟩ => ⟨S1x512, .f32⟩
  | .local _ .vmem, ⟨14, _⟩ => ⟨S128x32, .i32⟩
  | .local _ .vmem, ⟨15, _⟩ => ⟨S4096x1, .f32⟩
  | .local _ .vmem, ⟨16, _⟩ => ⟨S4096x512, .f32⟩
  | .local _ .vmem, ⟨17, _⟩ => ⟨S4096x512, .f32⟩
  | _, _ => ⟨S128x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![196], ![false]⟩

def k0_cond2 (i : grid0.Coords) : BitVec 1 :=
  let arg0 : BitVec 32 := BitVec.ofNat 32 (i 0).val
  let c195_i32 : BitVec 32 := 195#32
  let v308 : BitVec 1 := Scalar.cmpi .eq arg0 c195_i32
  let v309 : BitVec 32 := Scalar.extui v308
  let c0_i32_53 : BitVec 32 := 0#32
  let v310 : BitVec 1 := Scalar.cmpi .ne v309 c0_i32_53
  v310

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x32 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![196], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S4096x64 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x32 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4096x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S128x32x64 : Shape := ⟨3, ![128, 32, 64]⟩
abbrev S128x32 : Shape := ⟨2, ![128, 32]⟩
abbrev S100000x64 : Shape := ⟨2, ![100000, 64]⟩
abbrev S100000 : Shape := ⟨1, ![100000]⟩
abbrev S128x32x100000 : Shape := ⟨3, ![128, 32, 100000]⟩
abbrev S1x1x100000 : Shape := ⟨3, ![1, 1, 100000]⟩
abbrev S_ : Shape := ⟨0, ![]⟩
abbrev S1 : Shape := ⟨1, ![1]⟩
abbrev S128x32x2 : Shape := ⟨3, ![128, 32, 2]⟩
abbrev S1x128x1x32 : Shape := ⟨4, ![1, 128, 1, 32]⟩
abbrev S1x128x32x32 : Shape := ⟨4, ![1, 128, 32, 32]⟩
abbrev S128x1024 : Shape := ⟨2, ![128, 1024]⟩
abbrev S128x32x32 : Shape := ⟨3, ![128, 32, 32]⟩
abbrev S32x32 : Shape := ⟨2, ![32, 32]⟩
abbrev S128 : Shape := ⟨1, ![128]⟩
abbrev S128x1x1 : Shape := ⟨3, ![128, 1, 1]⟩
abbrev S32 : Shape := ⟨1, ![32]⟩
abbrev S1x32x1 : Shape := ⟨3, ![1, 32, 1]⟩
abbrev S128x32x32x1 : Shape := ⟨4, ![128, 32, 32, 1]⟩
abbrev S128x32x32x3 : Shape := ⟨4, ![128, 32, 32, 3]⟩
abbrev S128x32x1 : Shape := ⟨3, ![128, 32, 1]⟩

abbrev nBuf : Space → Nat
  | .hbm => 76
  | .vmem => 0
  | .smem => 0
  | _ => 0

abbrev bufTy : (tb : Table) → Fin (tcTables nBuf tb) → BufTy
  | .hbm, ⟨0, _⟩ => ⟨S128x32x64, .f32⟩
  | .hbm, ⟨1, _⟩ => ⟨S128x32, .i32⟩
  | .hbm, ⟨2, _⟩ => ⟨S100000x64, .f32⟩
  | .hbm, ⟨3, _⟩ => ⟨S100000, .f32⟩
  | .hbm, ⟨4, _⟩ => ⟨S128x32x100000, .f32⟩
  | .hbm, ⟨5, _⟩ => ⟨S1x1x100000, .f32⟩
  | .hbm, ⟨6, _⟩ => ⟨S128x32x100000, .f32⟩
  | .hbm, ⟨7, _⟩ => ⟨S128x32x100000, .f32⟩
  | .hbm, ⟨8, _⟩ => ⟨S_, .i32⟩
  | .hbm, ⟨9, _⟩ => ⟨S1, .i32⟩
  | .hbm, ⟨10, _⟩ => ⟨S_, .f32⟩
  | .hbm, ⟨11, _⟩ => ⟨S128x32x2, .f32⟩
  | .hbm, ⟨12, _⟩ => ⟨S128x32x100000, .f32⟩
  | .hbm, ⟨13, _⟩ => ⟨S1x128x1x32, .i32⟩
  | .hbm, ⟨14, _⟩ => ⟨S1x128x32x32, .i32⟩
  | .hbm, ⟨15, _⟩ => ⟨S128x1024, .i32⟩
  | .hbm, ⟨16, _⟩ => ⟨S128x32x32, .i32⟩
  | .hbm, ⟨17, _⟩ => ⟨S32x32, .i32⟩
  | .hbm, ⟨18, _⟩ => ⟨S_, .i32⟩
  | .hbm, ⟨19, _⟩ => ⟨S32x32, .i32⟩
  | .hbm, ⟨20, _⟩ => ⟨S32x32, .i32⟩
  | .hbm, ⟨21, _⟩ => ⟨S32x32, .i32⟩
  | .hbm, ⟨22, _⟩ => ⟨S32x32, .i1⟩
  | .hbm, ⟨23, _⟩ => ⟨S128x32x32, .i1⟩
  | .hbm, ⟨24, _⟩ => ⟨S_, .i32⟩
  | .hbm, ⟨25, _⟩ => ⟨S128x32x32, .i32⟩
  | .hbm, ⟨26, _⟩ => ⟨S128x32x32, .i32⟩
  | .hbm, ⟨27, _⟩ => ⟨S128, .i32⟩
  | .hbm, ⟨28, _⟩ => ⟨S128x1x1, .i32⟩
  | .hbm, ⟨29, _⟩ => ⟨S32, .i32⟩
  | .hbm, ⟨30, _⟩ => ⟨S1x32x1, .i32⟩
  | .hbm, ⟨31, _⟩ => ⟨S_, .i32⟩
  | .hbm, ⟨32, _⟩ => ⟨S128x1x1, .i32⟩
  | .hbm, ⟨33, _⟩ => ⟨S128x1x1, .i1⟩
  | .hbm, ⟨34, _⟩ => ⟨S_, .i32⟩
  | .hbm, ⟨35, _⟩ => ⟨S128x1x1, .i32⟩
  | .hbm, ⟨36, _⟩ => ⟨S128x1x1, .i32⟩
  | .hbm, ⟨37, _⟩ => ⟨S128x1x1, .i32⟩
  | .hbm, ⟨38, _⟩ => ⟨S_, .i32⟩
  | .hbm, ⟨39, _⟩ => ⟨S1x32x1, .i32⟩
  | .hbm, ⟨40, _⟩ => ⟨S1x32x1, .i1⟩
  | .hbm, ⟨41, _⟩ => ⟨S_, .i32⟩
  | .hbm, ⟨42, _⟩ => ⟨S1x32x1, .i32⟩
  | .hbm, ⟨43, _⟩ => ⟨S1x32x1, .i32⟩
  | .hbm, ⟨44, _⟩ => ⟨S1x32x1, .i32⟩
  | .hbm, ⟨45, _⟩ => ⟨S_, .i32⟩
  | .hbm, ⟨46, _⟩ => ⟨S128x32x32, .i32⟩
  | .hbm, ⟨47, _⟩ => ⟨S128x32x32, .i1⟩
  | .hbm, ⟨48, _⟩ => ⟨S_, .i32⟩
  | .hbm, ⟨49, _⟩ => ⟨S128x32x32, .i32⟩
  | .hbm, ⟨50, _⟩ => ⟨S128x32x32, .i32⟩
  | .hbm, ⟨51, _⟩ => ⟨S128x32x32, .i32⟩
  | .hbm, ⟨52, _⟩ => ⟨S128x32x32, .i32⟩
  | .hbm, ⟨53, _⟩ => ⟨S128x32x32, .i32⟩
  | .hbm, ⟨54, _⟩ => ⟨S128x32x32x1, .i32⟩
  | .hbm, ⟨55, _⟩ => ⟨S128x32x32x1, .i32⟩
  | .hbm, ⟨56, _⟩ => ⟨S128x32x32x1, .i32⟩
  | .hbm, ⟨57, _⟩ => ⟨S128x32x32x3, .i32⟩
  | .hbm, ⟨58, _⟩ => ⟨S_, .f32⟩
  | .hbm, ⟨59, _⟩ => ⟨S128x32x32, .f32⟩
  | .hbm, ⟨60, _⟩ => ⟨S128x32x100000, .f32⟩
  | .hbm, ⟨61, _⟩ => ⟨S_, .f32⟩
  | .hbm, ⟨62, _⟩ => ⟨S128x32, .f32⟩
  | .hbm, ⟨63, _⟩ => ⟨S_, .f32⟩
  | .hbm, ⟨64, _⟩ => ⟨S128x32, .f32⟩
  | .hbm, ⟨65, _⟩ => ⟨S128x32, .f32⟩
  | .hbm, ⟨66, _⟩ => ⟨S128x32x1, .f32⟩
  | .hbm, ⟨67, _⟩ => ⟨S128x32x100000, .f32⟩
  | .hbm, ⟨68, _⟩ => ⟨S128x32x100000, .f32⟩
  | .hbm, ⟨69, _⟩ => ⟨S128x32x100000, .f32⟩
  | .hbm, ⟨70, _⟩ => ⟨S_, .f32⟩
  | .hbm, ⟨71, _⟩ => ⟨S128x32, .f32⟩
  | .hbm, ⟨72, _⟩ => ⟨S128x32x1, .f32⟩
  | .hbm, ⟨73, _⟩ => ⟨S128x32x1, .f32⟩
  | .hbm, ⟨74, _⟩ => ⟨S128x32x100000, .f32⟩
  | .hbm, ⟨75, _⟩ => ⟨S128x32x100000, .f32⟩
  | _, _ => ⟨S128x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_0 : Ref sig .tc := ⟨.hbm, 24, rfl⟩
abbrev main_call0_v6 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_0 : Ref sig .tc := ⟨.hbm, 31, rfl⟩
abbrev main_v16 : Ref sig .tc := ⟨.hbm, 32, rfl⟩
abbrev main_v17 : Ref sig .tc := ⟨.hbm, 33, rfl⟩
abbrev main_c_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_call1_cst : Ref sig .tc := ⟨.hbm, 61, rfl⟩
abbrev main_call1_v0 : Ref sig .tc := ⟨.hbm, 62, rfl⟩
abbrev main_call1_cst_0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_cst_1 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_v39 : Ref sig .tc := ⟨.hbm, 75, rfl⟩

abbrev nD : Nat := 1
abbrev τ : Topo := Topo.v7x

variable {F : FTy → Type} [FloatOps F]
-- ==== Proof.Run.Whole.lean ====
/-
  Loads and stores of a whole memref through the rectangle of its own sizes at offset zero, in terms of what
  the memref is owned at: a load continues at the contents, an unmasked store leaves the payload. Stated for
  a memref that is only known to be whole, so that one body proof serves every staging slot.
-/
module

public import Idealize.ShloMosaic.Lib.Pipeline.Kit
public import Idealize.ShloMosaic.Lib.Tactic

@[expose] public section

noncomputable section

namespace Cert.Run

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {Ix : Type} [DecidableEq Ix] {Name : Type} [DecidableEq Name] {U : Type} [URA U] {Lvl : Type} [Preorder Lvl]

local notation "𝕄" => MT nD τ sig Ix Val Name U Lvl

variable {defs : Defs nD τ sig Val Λ} (𝒱 : Variants) (c : Thread nD τ) (bd : Option 𝒱.V) (E : Set Name)
variable {α : Type} {s : Shape} {e : EltTy} {cs : CoreSpace}

omit [DecidableEq Ix] [DecidableEq Name] [URA U] [Preorder Lvl] in
/-- A whole memref read at the rectangle of its own sizes at offset zero reads its contents. -/
theorem readAt_whole {κ : Kind} {sp : Space} {m : Memref sig κ sp s e} (hm : m.IsWhole) (inb : ∀ a, (fun _ => 0 : Fin s.rank → ℕ) a + s.size a ≤ s.size a)
    (f : m.view.ty.Contents Val) : m.view.readAt Val (Rect.unit (s := s) (fun _ => 0) s.size inb).toLoadRect f = m.view.read Val f := by
  obtain ⟨b, hsp, hsh, he, h⟩ := hm; subst hsp hsh he; cases h
  exact Memref.readAt_unit_zero Val b rfl inb f

/-- After an unmasked store of `w` through that rectangle the whole memref reads `w`. -/
theorem read_store_whole {κ : Kind} {sp : Space} {m : Memref sig κ sp s e} (hm : m.IsWhole) (inb : ∀ a, (fun _ => 0 : Fin s.rank → ℕ) a + s.size a ≤ s.size a)
    (f : m.view.ty.Contents Val) (w : s.Idx → Val e) :
    m.view.read Val ((m.access (Rect.unit (s := s) (fun _ => 0) s.size inb)).write Val f w Finset.univ) = w := by
  obtain ⟨b, hsp, hsh, he, h⟩ := hm; subst hsp hsh he; cases h
  exact Memref.write_access_unit_zero_univ Val b rfl inb f w

/-- A load of a whole memref owned at `X` continues at `X`. -/
theorem load_whole {Q : α → sProp 𝕄} {m : Memref sig c.2.kind cs s e} (hm : m.IsWhole) {off : Fin s.rank → ℕ} (hz : off = fun _ => 0)
    {inb : ∀ a, off a + s.size a ≤ s.size a}
    {hl : m.view.LoadsAt (Rect.unit (s := s) off s.size inb).toLoadRect}
    {k : ((Rect.unit (s := s) off s.size inb).toLoadRect.shape.Idx → Val e) → Prog (TpuEff nD τ sig Val Λ c.2) α}
    {q : PosShare TreeShare} (X : s.Idx → Val e) :
    (owns c m q X : sProp 𝕄)
      ⊢ iprop((owns c m q X -∗ wp frame (wpE defs 𝒱 c bd) E (k X) Q)
          -∗ wp frame (wpE defs 𝒱 c bd) E (.op (.load m (Rect.unit (s := s) off s.size inb).toLoadRect hl) k) Q) := by
  subst hz
  have hr := fun f => readAt_whole (Val := Val) hm inb f
  unfold owns
  iintro ⟨%f, %hf, H⟩ Hk
  ihave Hw := (wp_load (defs := defs) 𝒱 c bd E (Q := Q) (m := m) (r := (Rect.unit (s := s) (fun _ => 0) s.size inb).toLoadRect)
    (hl := hl) (k := k) (S := m.view.set) (q := q) (f := f) (View.setOn_subset_set _ _)) $$ H
  iapply Hw
  iintro H
  rw [hr f, hf]
  iapply Hk
  iexists f; isplitr; · ipureintro; exact hf
  iexact H

/-- An unmasked store to a whole memref leaves it owned at the payload. -/
theorem store_whole {Q : α → sProp 𝕄} {m : Memref sig c.2.kind cs s e} (hm : m.IsWhole) {off : Fin s.rank → ℕ} (hz : off = fun _ => 0)
    {inb : ∀ a, off a + s.size a ≤ s.size a} {w : (Rect.unit (s := s) off s.size inb).shape.Idx → Val e}
    {hx : (m.access (Rect.unit (s := s) off s.size inb)).Stores Finset.univ}
    {hmk : Finset.univ = Finset.univ ∨ ∀ a, (Rect.unit (s := s) off s.size inb).stride a = 1}
    {k : PUnit → Prog (TpuEff nD τ sig Val Λ c.2) α} (X : s.Idx → Val e) :
    (owns c m fullShare X : sProp 𝕄)
      ⊢ iprop((owns c m fullShare w -∗ wp frame (wpE defs 𝒱 c bd) E (k ⟨⟩) Q)
          -∗ wp frame (wpE defs 𝒱 c bd) E (.op (.store m (Rect.unit (s := s) off s.size inb) w Finset.univ hx hmk) k) Q) := by
  subst hz
  have hr := fun f => read_store_whole (Val := Val) hm inb f w
  unfold owns
  iintro ⟨%f, %hf, H⟩ Hk
  have hS : (m.access (Rect.unit (s := s) (fun _ => 0) s.size inb)).setOn Finset.univ ⊆ m.view.set := by
    rw [hm.set_eq_univ]; exact Finset.subset_univ _
  ihave Hw := (wp_store (defs := defs) 𝒱 c bd E (Q := Q) (m := m) (r := Rect.unit (s := s) (fun _ => 0) s.size inb)
    (w := w) (Mk := Finset.univ) (hx := hx) (hm := hmk) (k := k) (S := m.view.set) (f := f) hS) $$ H
  iapply Hw
  iintro H
  iapply Hk
  iexists _; isplitr; · ipureintro; exact hr f
  iexact H

end Cert.Run
end
-- ==== Proof.KI.Body1.lean ====
/-
  The body of the second call (`cc1__out_kernel`) at one grid point: from the five staged operands it stores the
  masked log-probabilities of the point's block of columns, whatever its output buffer held.
-/
module

public import proofs.«01_k».proof.Proof.Run.Whole
public import proofs.«01_k».proof.Proof.Gen.KernelIdeal.Skeleton
public import proofs.«01_k».proof.Proof.Gen.KernelIdeal.Launch

@[expose] public section

set_option maxRecDepth 65536

noncomputable section

namespace Cert.KIRun

open Cert.KernelIdeal Cert.KernelIdeal.Gen
open Cert.Run
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

section Values

variable (i : grid1.Coords) (tgt : Vec F S128x32 .i32)

/-- The first-hit positions of the point's columns after the first 6 of the 32 entries of a target row. -/
def hit1a : IVec S128x512 32 := k1_pay7 tgt (k1_pay3 i) (k1_pay4 i tgt) (k1_pay5 tgt) (k1_pay6 i)
/-- The same, six to eight entries further. -/
def hit1b : IVec S128x512 32 := k1_pay10 tgt (k1_pay3 i) (hit1a i tgt) (k1_pay8 tgt) (k1_pay9 (k1_pay3 i))
/-- The same, further. -/
def hit1c : IVec S128x512 32 := k1_pay13 tgt (k1_pay3 i) (hit1b i tgt) (k1_pay11 tgt) (k1_pay12 (k1_pay3 i))
/-- The same, further. -/
def hit1d : IVec S128x512 32 := k1_pay16 tgt (k1_pay3 i) (hit1c i tgt) (k1_pay14 tgt) (k1_pay15 (k1_pay3 i))
/-- Which columns of the point's block each row masks by its targets. -/
def mask1 : IVec S4096x512 1 := k1_pay19 tgt (k1_pay3 i) (hit1d i tgt) (k1_pay17 tgt) (k1_pay18 (k1_pay3 i))

/-- What the body stores: the point's block of the result. -/
def out1 (x : Vec F S4096x64 .bf16) (W : Vec F S512x64 .bf16) (b : Vec F S1x512 .f32) (d : Vec F S4096x1 .f32) :
    FVec F S4096x512 .f32 :=
  k1_pay1 (k1_pay2 x W b) (mask1 i tgt) (k1_pay20 (k1_pay3 i)) d

end Values

theorem zz : (![0, 0] : Fin 2 → Nat) = fun _ => 0 := funext fun a => by fin_cases a <;> rfl

section Body

variable {U : Type} [URA U]

local notation "𝕄" => MT nD τ sig Unit (Elt F) ℕ U ℕ

/-- The body's triple, over whole staging memrefs. -/
theorem body1 (𝒱 : Variants) (c : Dev nD) (E : Set ℕ) (i : grid1.Coords)
    {a1 : Memref sig .tc .vmem S4096x64 .bf16} {h1 : a1.IsWhole} {a2 : Memref sig .tc .vmem S512x64 .bf16} {h2 : a2.IsWhole}
    {a3 : Memref sig .tc .vmem S1x512 .f32} {h3 : a3.IsWhole} {a4 : Memref sig .tc .vmem S128x32 .i32} {h4 : a4.IsWhole}
    {a5 : Memref sig .tc .vmem S4096x1 .f32} {h5 : a5.IsWhole} {a6 : Memref sig .tc .vmem S4096x512 .f32} {h6 : a6.IsWhole}
    (x : Vec F S4096x64 .bf16) (W : Vec F S512x64 .bf16) (b : Vec F S1x512 .f32) (tgt : Vec F S128x32 .i32)
    (d : Vec F S4096x1 .f32) (o : Vec F S4096x512 .f32) (K : PUnit → sProp 𝕄) :
    iprop(owns (c : Thread nD τ) a1 fullShare x ∗ owns (c : Thread nD τ) a2 fullShare W ∗ owns (c : Thread nD τ) a3 fullShare b
          ∗ owns (c : Thread nD τ) a4 fullShare tgt ∗ owns (c : Thread nD τ) a5 fullShare d ∗ owns (c : Thread nD τ) a6 fullShare o
          ∗ (iprop(owns (c : Thread nD τ) a1 fullShare x ∗ owns (c : Thread nD τ) a2 fullShare W ∗ owns (c : Thread nD τ) a3 fullShare b
              ∗ owns (c : Thread nD τ) a4 fullShare tgt ∗ owns (c : Thread nD τ) a5 fullShare d
              ∗ owns (c : Thread nD τ) a6 fullShare (out1 i tgt x W b d)) -∗ K ⟨⟩))
      ⊢ wp frame (wpE (defs₀ (F := F)) 𝒱 c none) E (cc1__out_kernel i a1 h1 a2 h2 a3 h3 a4 h4 a5 h5 a6 h6) K := by
  simp only [cc1__out_kernel_eq_skeleton]
  unfold cc1__out_kernel_skel
  simp only [k1_part1_eq_skeleton, k1_part2_eq_skeleton, k1_part3_eq_skeleton, k1_part4_eq_skeleton, k1_part5_eq_skeleton,
    k1_part6_eq_skeleton]
  unfold k1_part1_skel k1_part2_skel k1_part3_skel k1_part4_skel k1_part5_skel k1_part6_skel
  simp only [Prog.lift, Prog.bind_op, Prog.bind_ret]
  iintro ⟨H1, H2, H3, H4, H5, H6, Hk⟩
  iapply (load_whole 𝒱 (c : Thread nD τ) none E h1 zz x) $$ H1; iintro H1
  iapply (load_whole 𝒱 (c : Thread nD τ) none E h2 zz W) $$ H2; iintro H2
  iapply (load_whole 𝒱 (c : Thread nD τ) none E h3 zz b) $$ H3; iintro H3
  iapply (load_whole 𝒱 (c : Thread nD τ) none E h4 zz tgt) $$ H4; iintro H4
  iapply (load_whole 𝒱 (c : Thread nD τ) none E h5 zz d) $$ H5; iintro H5
  iapply (load_whole 𝒱 (c : Thread nD τ) none E h6 zz o) $$ H6; iintro H6
  iapply (store_whole 𝒱 (c : Thread nD τ) none E h6 zz o) $$ H6; iintro H6
  sl_step
  iapply Hk
  isplitl [H1]; · iexact H1
  isplitl [H2]; · iexact H2
  isplitl [H3]; · iexact H3
  isplitl [H4]; · iexact H4
  isplitl [H5]; · iexact H5
  iexact H6

end Body

end Cert.KIRun
end
-- ==== Proof.KI.Body0.lean ====
/-
  The body of the first call (`cc0__stats_kernel`) at one grid point: it resets the running maximum and the running
  sum of exponentials at the first point, updates both with the point's block of logits, and at the last point
  stores the log-normaliser. Three triples, one per kind of point, each naming what the body leaves.
-/
module

public import proofs.«01_k».proof.Proof.KI.Body1

@[expose] public section

set_option maxRecDepth 65536

noncomputable section

namespace Cert.KIRun

open Cert.KernelIdeal Cert.KernelIdeal.Gen
open Cert.Run
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

section Values

variable (i : grid0.Coords) (tgt : Vec F S128x32 .i32)

/-- The first-hit positions of the point's columns after the first entries of a target row. -/
def hit0a : IVec S128x512 32 := k0_pay14 tgt (k0_pay10 i) (k0_pay11 i tgt) (k0_pay12 i tgt) 32#32 k0_pay13
/-- The same, further. -/
def hit0b : IVec S128x512 32 := k0_pay17 tgt (k0_pay10 i) (hit0a i tgt) (k0_pay15 tgt (k0_pay10 i)) 32#32 k0_pay16
/-- The same, further. -/
def hit0c : IVec S128x512 32 := k0_pay20 tgt (k0_pay10 i) (hit0b i tgt) (k0_pay18 tgt (k0_pay10 i)) 32#32 k0_pay19
/-- The same, further. -/
def hit0d : IVec S128x512 32 := k0_pay23 tgt (k0_pay10 i) (hit0c i tgt) (k0_pay21 tgt (k0_pay10 i)) 32#32 k0_pay22
/-- Which columns of the point's block each row masks by its targets. -/
def mask0 : IVec S4096x512 1 := k0_pay26 tgt (k0_pay10 i) (hit0d i tgt) (k0_pay24 tgt (k0_pay10 i)) 32#32 k0_pay25

variable (x : Vec F S4096x64 .bf16) (W : Vec F S512x64 .bf16) (b : Vec F S1x512 .f32) (m l : Vec F S4096x1 .f32)

/-- The running maximum after the point. -/
def newM : FVec F S4096x1 .f32 := k0_pay4 (k0_pay9 x W b) (k0_pay10 i) (mask0 i tgt) k0_pay27 m
/-- The running sum of exponentials after the point. -/
def newL : FVec F S4096x1 .f32 := k0_pay5 (k0_pay9 x W b) (k0_pay10 i) (mask0 i tgt) k0_pay27 m l
/-- The log-normaliser that the last point stores. -/
def newD : FVec F S4096x1 .f32 := k0_pay6 (k0_pay9 x W b) (k0_pay10 i) (mask0 i tgt) k0_pay27 m l

end Values

/-- The condition of the body's first branch: the point is the first. -/
def cond1 (i : grid0.Coords) : BitVec 1 :=
  let v1 : BitVec 32 := Scalar.extui (Scalar.cmpi .eq (BitVec.ofNat 32 (i 0).val) 0#32)
  Scalar.cmpi .ne v1 0#32

section Body

variable {U : Type} [URA U]

local notation "𝕄" => MT nD τ sig Unit (Elt F) ℕ U ℕ

/-- At the first point, whatever the scratch buffers held. -/
theorem body0_first (𝒱 : Variants) (c : Dev nD) (E : Set ℕ) (i : grid0.Coords)
    {a1 : Memref sig .tc .vmem S4096x64 .bf16} {h1 : a1.IsWhole} {a2 : Memref sig .tc .vmem S512x64 .bf16} {h2 : a2.IsWhole}
    {a3 : Memref sig .tc .vmem S1x512 .f32} {h3 : a3.IsWhole} {a4 : Memref sig .tc .vmem S128x32 .i32} {h4 : a4.IsWhole}
    {a5 : Memref sig .tc .vmem S4096x1 .f32} {h5 : a5.IsWhole} {a6 : Memref sig .tc .vmem S4096x1 .f32} {h6 : a6.IsWhole}
    {a7 : Memref sig .tc .vmem S4096x1 .f32} {h7 : a7.IsWhole}
    (x : Vec F S4096x64 .bf16) (W : Vec F S512x64 .bf16) (b : Vec F S1x512 .f32) (tgt : Vec F S128x32 .i32)
    (o m l : Vec F S4096x1 .f32) (K : PUnit.{1} → sProp 𝕄)
    (hc1 : cond1 i = 1#1) (hc2 : ¬ k0_cond2 i = 1#1) :
    iprop(owns (c : Thread nD τ) a1 fullShare x ∗ owns (c : Thread nD τ) a2 fullShare W ∗ owns (c : Thread nD τ) a3 fullShare b
          ∗ owns (c : Thread nD τ) a4 fullShare tgt ∗ owns (c : Thread nD τ) a5 fullShare o
          ∗ owns (c : Thread nD τ) a6 fullShare m ∗ owns (c : Thread nD τ) a7 fullShare l
          ∗ (iprop(owns (c : Thread nD τ) a1 fullShare x ∗ owns (c : Thread nD τ) a2 fullShare W ∗ owns (c : Thread nD τ) a3 fullShare b
              ∗ owns (c : Thread nD τ) a4 fullShare tgt ∗ owns (c : Thread nD τ) a5 fullShare o
              ∗ owns (c : Thread nD τ) a6 fullShare (newM i tgt x W b k0_pay7)
              ∗ owns (c : Thread nD τ) a7 fullShare (newL i tgt x W b k0_pay7 k0_pay8)) -∗ K ⟨⟩))
      ⊢ wp frame (wpE (defs₀ (F := F)) 𝒱 c none) E (cc0__stats_kernel i a1 h1 a2 h2 a3 h3 a4 h4 a5 h5 a6 h6 a7 h7) K := by
  simp only [cc0__stats_kernel_eq_skeleton]
  unfold cc0__stats_kernel_skel
  simp only [k0_part1_eq_skeleton, k0_part2_eq_skeleton, k0_part3_eq_skeleton, k0_part4_eq_skeleton, k0_part5_eq_skeleton,
    k0_part6_eq_skeleton]
  unfold k0_part1_skel k0_part2_skel k0_part3_skel k0_part4_skel k0_part5_skel k0_part6_skel
  have hc1' : Scalar.cmpi .ne (Scalar.extui (Scalar.cmpi .eq (BitVec.ofNat 32 (i 0).val) 0#32) : BitVec 32) 0#32 = 1#1 := hc1
  rw [dif_pos hc1']
  simp only [dif_neg hc2, Prog.lift, Prog.bind_op, Prog.bind_ret, Prog.pure_eq_ret]
  iintro ⟨H1, H2, H3, H4, H5, H6, H7, Hk⟩
  iapply (load_whole 𝒱 (c : Thread nD τ) none E h6 zz m) $$ H6; iintro H6
  iapply (store_whole 𝒱 (c : Thread nD τ) none E h6 zz m) $$ H6; iintro H6
  iapply (load_whole 𝒱 (c : Thread nD τ) none E h7 zz l) $$ H7; iintro H7
  iapply (store_whole 𝒱 (c : Thread nD τ) none E h7 zz l) $$ H7; iintro H7
  iapply (load_whole 𝒱 (c : Thread nD τ) none E h1 zz x) $$ H1; iintro H1
  iapply (load_whole 𝒱 (c : Thread nD τ) none E h2 zz W) $$ H2; iintro H2
  iapply (load_whole 𝒱 (c : Thread nD τ) none E h3 zz b) $$ H3; iintro H3
  iapply (load_whole 𝒱 (c : Thread nD τ) none E h4 zz tgt) $$ H4; iintro H4
  iapply (load_whole 𝒱 (c : Thread nD τ) none E h6 zz k0_pay7) $$ H6; iintro H6
  iapply (load_whole 𝒱 (c : Thread nD τ) none E h7 zz k0_pay8) $$ H7; iintro H7
  iapply (load_whole 𝒱 (c : Thread nD τ) none E h6 zz k0_pay7) $$ H6; iintro H6
  iapply (store_whole 𝒱 (c : Thread nD τ) none E h6 zz k0_pay7) $$ H6; iintro H6
  iapply (load_whole 𝒱 (c : Thread nD τ) none E h7 zz k0_pay8) $$ H7; iintro H7
  iapply (store_whole 𝒱 (c : Thread nD τ) none E h7 zz k0_pay8) $$ H7; iintro H7
  sl_step
  iapply Hk
  isplitl [H1]; · iexact H1
  isplitl [H2]; · iexact H2
  isplitl [H3]; · iexact H3
  isplitl [H4]; · iexact H4
  isplitl [H5]; · iexact H5
  isplitl [H6]; · iexact H6
  iexact H7

/-- At a point that is neither first nor last. -/
theorem body0_mid (𝒱 : Variants) (c : Dev nD) (E : Set ℕ) (i : grid0.Coords)
    {a1 : Memref sig .tc .vmem S4096x64 .bf16} {h1 : a1.IsWhole} {a2 : Memref sig .tc .vmem S512x64 .bf16} {h2 : a2.IsWhole}
    {a3 : Memref sig .tc .vmem S1x512 .f32} {h3 : a3.IsWhole} {a4 : Memref sig .tc .vmem S128x32 .i32} {h4 : a4.IsWhole}
    {a5 : Memref sig .tc .vmem S4096x1 .f32} {h5 : a5.IsWhole} {a6 : Memref sig .tc .vmem S4096x1 .f32} {h6 : a6.IsWhole}
    {a7 : Memref sig .tc .vmem S4096x1 .f32} {h7 : a7.IsWhole}
    (x : Vec F S4096x64 .bf16) (W : Vec F S512x64 .bf16) (b : Vec F S1x512 .f32) (tgt : Vec F S128x32 .i32)
    (o m l : Vec F S4096x1 .f32) (K : PUnit.{1} → sProp 𝕄)
    (hc1 : ¬ cond1 i = 1#1) (hc2 : ¬ k0_cond2 i = 1#1) :
    iprop(owns (c : Thread nD τ) a1 fullShare x ∗ owns (c : Thread nD τ) a2 fullShare W ∗ owns (c : Thread nD τ) a3 fullShare b
          ∗ owns (c : Thread nD τ) a4 fullShare tgt ∗ owns (c : Thread nD τ) a5 fullShare o
          ∗ owns (c : Thread nD τ) a6 fullShare m ∗ owns (c : Thread nD τ) a7 fullShare l
          ∗ (iprop(owns (c : Thread nD τ) a1 fullShare x ∗ owns (c : Thread nD τ) a2 fullShare W ∗ owns (c : Thread nD τ) a3 fullShare b
              ∗ owns (c : Thread nD τ) a4 fullShare tgt ∗ owns (c : Thread nD τ) a5 fullShare o
              ∗ owns (c : Thread nD τ) a6 fullShare (newM i tgt x W b m)
              ∗ owns (c : Thread nD τ) a7 fullShare (newL i tgt x W b m l)) -∗ K ⟨⟩))
      ⊢ wp frame (wpE (defs₀ (F := F)) 𝒱 c none) E (cc0__stats_kernel i a1 h1 a2 h2 a3 h3 a4 h4 a5 h5 a6 h6 a7 h7) K := by
  simp only [cc0__stats_kernel_eq_skeleton]
  unfold cc0__stats_kernel_skel
  simp only [k0_part1_eq_skeleton, k0_part2_eq_skeleton, k0_part3_eq_skeleton, k0_part4_eq_skeleton, k0_part5_eq_skeleton,
    k0_part6_eq_skeleton]
  unfold k0_part1_skel k0_part2_skel k0_part3_skel k0_part4_skel k0_part5_skel k0_part6_skel
  have hc1' : ¬ Scalar.cmpi .ne (Scalar.extui (Scalar.cmpi .eq (BitVec.ofNat 32 (i 0).val) 0#32) : BitVec 32) 0#32 = 1#1 := hc1
  rw [dif_neg hc1']
  simp only [dif_neg hc2, Prog.lift, Prog.bind_op, Prog.bind_ret, Prog.pure_eq_ret]
  iintro ⟨H1, H2, H3, H4, H5, H6, H7, Hk⟩
  iapply (load_whole 𝒱 (c : Thread nD τ) none E h1 zz x) $$ H1; iintro H1
  iapply (load_whole 𝒱 (c : Thread nD τ) none E h2 zz W) $$ H2; iintro H2
  iapply (load_whole 𝒱 (c : Thread nD τ) none E h3 zz b) $$ H3; iintro H3
  iapply (load_whole 𝒱 (c : Thread nD τ) none E h4 zz tgt) $$ H4; iintro H4
  iapply (load_whole 𝒱 (c : Thread nD τ) none E h6 zz m) $$ H6; iintro H6
  iapply (load_whole 𝒱 (c : Thread nD τ) none E h7 zz l) $$ H7; iintro H7
  iapply (load_whole 𝒱 (c : Thread nD τ) none E h6 zz m) $$ H6; iintro H6
  iapply (store_whole 𝒱 (c : Thread nD τ) none E h6 zz m) $$ H6; iintro H6
  iapply (load_whole 𝒱 (c : Thread nD τ) none E h7 zz l) $$ H7; iintro H7
  iapply (store_whole 𝒱 (c : Thread nD τ) none E h7 zz l) $$ H7; iintro H7
  sl_step
  iapply Hk
  isplitl [H1]; · iexact H1
  isplitl [H2]; · iexact H2
  isplitl [H3]; · iexact H3
  isplitl [H4]; · iexact H4
  isplitl [H5]; · iexact H5
  isplitl [H6]; · iexact H6
  iexact H7

/-- At the last point. -/
theorem body0_last (𝒱 : Variants) (c : Dev nD) (E : Set ℕ) (i : grid0.Coords)
    {a1 : Memref sig .tc .vmem S4096x64 .bf16} {h1 : a1.IsWhole} {a2 : Memref sig .tc .vmem S512x64 .bf16} {h2 : a2.IsWhole}
    {a3 : Memref sig .tc .vmem S1x512 .f32} {h3 : a3.IsWhole} {a4 : Memref sig .tc .vmem S128x32 .i32} {h4 : a4.IsWhole}
    {a5 : Memref sig .tc .vmem S4096x1 .f32} {h5 : a5.IsWhole} {a6 : Memref sig .tc .vmem S4096x1 .f32} {h6 : a6.IsWhole}
    {a7 : Memref sig .tc .vmem S4096x1 .f32} {h7 : a7.IsWhole}
    (x : Vec F S4096x64 .bf16) (W : Vec F S512x64 .bf16) (b : Vec F S1x512 .f32) (tgt : Vec F S128x32 .i32)
    (o m l : Vec F S4096x1 .f32) (K : PUnit.{1} → sProp 𝕄)
    (hc1 : ¬ cond1 i = 1#1) (hc2 : k0_cond2 i = 1#1) :
    iprop(owns (c : Thread nD τ) a1 fullShare x ∗ owns (c : Thread nD τ) a2 fullShare W ∗ owns (c : Thread nD τ) a3 fullShare b
          ∗ owns (c : Thread nD τ) a4 fullShare tgt ∗ owns (c : Thread nD τ) a5 fullShare o
          ∗ owns (c : Thread nD τ) a6 fullShare m ∗ owns (c : Thread nD τ) a7 fullShare l
          ∗ (iprop(owns (c : Thread nD τ) a1 fullShare x ∗ owns (c : Thread nD τ) a2 fullShare W ∗ owns (c : Thread nD τ) a3 fullShare b
              ∗ owns (c : Thread nD τ) a4 fullShare tgt ∗ owns (c : Thread nD τ) a5 fullShare (newD i tgt x W b m l)
              ∗ owns (c : Thread nD τ) a6 fullShare (newM i tgt x W b m)
              ∗ owns (c : Thread nD τ) a7 fullShare (newL i tgt x W b m l)) -∗ K ⟨⟩))
      ⊢ wp frame (wpE (defs₀ (F := F)) 𝒱 c none) E (cc0__stats_kernel i a1 h1 a2 h2 a3 h3 a4 h4 a5 h5 a6 h6 a7 h7) K := by
  simp only [cc0__stats_kernel_eq_skeleton]
  unfold cc0__stats_kernel_skel
  simp only [k0_part1_eq_skeleton, k0_part2_eq_skeleton, k0_part3_eq_skeleton, k0_part4_eq_skeleton, k0_part5_eq_skeleton,
    k0_part6_eq_skeleton]
  unfold k0_part1_skel k0_part2_skel k0_part3_skel k0_part4_skel k0_part5_skel k0_part6_skel
  have hc1' : ¬ Scalar.cmpi .ne (Scalar.extui (Scalar.cmpi .eq (BitVec.ofNat 32 (i 0).val) 0#32) : BitVec 32) 0#32 = 1#1 := hc1
  rw [dif_neg hc1']
  simp only [dif_pos hc2, Prog.lift, Prog.bind_op, Prog.bind_ret, Prog.pure_eq_ret]
  iintro ⟨H1, H2, H3, H4, H5, H6, H7, Hk⟩
  iapply (load_whole 𝒱 (c : Thread nD τ) none E h1 zz x) $$ H1; iintro H1
  iapply (load_whole 𝒱 (c : Thread nD τ) none E h2 zz W) $$ H2; iintro H2
  iapply (load_whole 𝒱 (c : Thread nD τ) none E h3 zz b) $$ H3; iintro H3
  iapply (load_whole 𝒱 (c : Thread nD τ) none E h4 zz tgt) $$ H4; iintro H4
  iapply (load_whole 𝒱 (c : Thread nD τ) none E h6 zz m) $$ H6; iintro H6
  iapply (load_whole 𝒱 (c : Thread nD τ) none E h7 zz l) $$ H7; iintro H7
  iapply (load_whole 𝒱 (c : Thread nD τ) none E h6 zz m) $$ H6; iintro H6
  iapply (store_whole 𝒱 (c : Thread nD τ) none E h6 zz m) $$ H6; iintro H6
  iapply (load_whole 𝒱 (c : Thread nD τ) none E h7 zz l) $$ H7; iintro H7
  iapply (store_whole 𝒱 (c : Thread nD τ) none E h7 zz l) $$ H7; iintro H7
  iapply (load_whole 𝒱 (c : Thread nD τ) none E h5 zz o) $$ H5; iintro H5
  iapply (store_whole 𝒱 (c : Thread nD τ) none E h5 zz o) $$ H5; iintro H5
  sl_step
  iapply Hk
  isplitl [H1]; · iexact H1
  isplitl [H2]; · iexact H2
  isplitl [H3]; · iexact H3
  isplitl [H4]; · iexact H4
  isplitl [H5]; · iexact H5
  isplitl [H6]; · iexact H6
  iexact H7

end Body

end Cert.KIRun
end
-- ==== Proof.KI.Data0.lean ====
/-
  The proof data of the first call. Its scratch buffers are held to a relation that runs along the grid (`Reach`):
  what they may hold after the first `t` points, over every word the staging buffers may hold past the ends of the
  weights' and the bias's last blocks. The result's staging buffer is held to what the last point stores.
-/
module

public import proofs.«01_k».proof.Proof.KI.Body0
public import proofs.«01_k».proof.Proof.Gen.KernelIdeal.Points
public import Idealize.ShloMosaic.Lib.Pipeline.DatRel
public import Idealize.ShloMosaic.Lib.Pipeline.FrameBody

@[expose] public section

set_option maxRecDepth 16384

noncomputable section

namespace Cert.KIRun

open Cert.KernelIdeal Cert.KernelIdeal.Gen
open Cert.Run
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F]

/-- The proof's resource algebra: two copies of the pipelines' own, one for each call. -/
abbrev UU : Type := UR sig nD τ × UR sig nD τ

local notation "𝕄" => MT nD τ sig Unit (Elt F) ℕ UU ℕ

/-- The contents of a core's buffers. -/
abbrev Vals (F : FTy → Type) (c : Dev nD) : Type := (b : Ref sig .tc) → Buf (Elt F) ((c : Thread nD τ).loc b)

section Relation

variable {c : Dev nD} (V : Vals F c)

/-- Window `w`'s staging buffer after its fetch at point `t`: the block where it lies inside the array, `d` past its end. -/
def stg0 (w : Fin cfg0.W) (t : Fin cfg0.N) (d : (cfg0.win w).block.Idx → Elt F (cfg0.win w).elt) :
    (cfg0.win w).block.Idx → Elt F (cfg0.win w).elt :=
  (cfg0.win w).fill (cfg0.grid.coords t) d (((cfg0.win w).blk t).view.read (Elt F) (V (Pipeline.arrRef spec0 w)))

/-- Some word of each type. -/
abbrev junk0 (w : Fin cfg0.W) : (cfg0.win w).block.Idx → Elt F (cfg0.win w).elt := fun _ => Classical.ofNonempty

/-- The staged activations, targets, weights and bias at point `t`. -/
abbrev xAt0 (t : Fin cfg0.N) : Vec F S4096x64 .bf16 := stg0 V 0 t (junk0 0)
abbrev tAt0 (t : Fin cfg0.N) : Vec F S128x32 .i32 := stg0 V 3 t (junk0 3)
abbrev wAt0 (t : Fin cfg0.N) (d : Vec F S512x64 .bf16) : Vec F S512x64 .bf16 := stg0 V 1 t d
abbrev bAt0 (t : Fin cfg0.N) (d : Vec F S1x512 .f32) : Vec F S1x512 .f32 := stg0 V 2 t d

/-- What the two scratch buffers may hold after the first `n` points. -/
def Reach : ℕ → Vec F S4096x1 .f32 → Vec F S4096x1 .f32 → Prop
  | 0, _, _ => True
  | n + 1, m', l' => ∃ (h : n < cfg0.N) (m l : Vec F S4096x1 .f32) (dw : Vec F S512x64 .bf16) (db : Vec F S1x512 .f32),
      Reach n m l
        ∧ m' = newM (grid0.coords ⟨n, h⟩) (tAt0 V ⟨n, h⟩) (xAt0 V ⟨n, h⟩) (wAt0 V ⟨n, h⟩ dw) (bAt0 V ⟨n, h⟩ db) (if n = 0 then k0_pay7 else m)
        ∧ l' = newL (grid0.coords ⟨n, h⟩) (tAt0 V ⟨n, h⟩) (xAt0 V ⟨n, h⟩) (wAt0 V ⟨n, h⟩ dw) (bAt0 V ⟨n, h⟩ db) (if n = 0 then k0_pay7 else m)
            (if n = 0 then k0_pay8 else l)

/-- What the last point may store as the log-normalisers. -/
def Denom (t : Fin cfg0.N) (X : Vec F S4096x1 .f32) : Prop :=
  ∃ (m l : Vec F S4096x1 .f32) (dw : Vec F S512x64 .bf16) (db : Vec F S1x512 .f32), Reach V t.val m l
    ∧ X = newD (grid0.coords t) (tAt0 V t) (xAt0 V t) (wAt0 V t dw) (bAt0 V t db) m l

/-- What is asked of the result's staging buffer. -/
def Rl0 : (w : Fin cfg0.W) → (t : Fin cfg0.N) → ((cfg0.win w).block.Idx → Elt F (cfg0.win w).elt) → Prop
  | 4, t, X => t.val = 195 → Denom V t X
  | _, _, _ => True

end Relation

/-- The windows held to `Rl0`: the result's. -/
def fgt0 : Fin cfg0.W → Bool := fun | 0 => false | 1 => false | 2 => false | 3 => false | 4 => true

/-- The other scoped buffers, at any contents. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f))

/-- The scratch buffers at contents reachable after `n` points, and the other scoped buffers. -/
def Inv0 {c : Dev nD} (V : Vals F c) (n : ℕ) : sProp 𝕄 :=
  iprop((∃ m l, ⌜Reach V n m l⌝ ∗ owns (c : Thread nD τ) (Memref.whole cc0_scratch0) fullShare m
      ∗ owns (c : Thread nD τ) (Memref.whole cc0_scratch1) fullShare l) ∗ rest0 c)

/-- The proof data. -/
def dat0 {c : Dev nD} (V : Vals F c) : Dat τ (Elt F) Unit ℕ UU ℕ cfg0 c where
  A w := V (Pipeline.arrRef spec0 w)
  after w t := stg0 V w t (junk0 w)
  Φ p := Inv0 V p.val
  q _ := fullShare
  owed _ := 0

/-- The kernel's variants: none. -/
abbrev 𝒱₀ : Variants := Variants.none

variable {c : Dev nD} (V : Vals F c)

theorem coords0 (t : Fin cfg0.N) : ((grid0.coords t) 0).val = t.val := by
  rw [Pipeline.Grid.coords_val (G := grid0) t 0 (S := 1) (B := 196) (by decide) rfl]
  have h : t.val < 196 := lt_of_lt_of_eq t.isLt N_0
  omega

theorem cond1_iff (i : grid0.Coords) : cond1 i = 1#1 ↔ (i 0).val = 0 := by
  have h : ∀ n : Fin 196, Scalar.cmpi .ne (Scalar.extui (Scalar.cmpi .eq (BitVec.ofNat 32 n.val) 0#32) : BitVec 32) 0#32 = 1#1 ↔ n.val = 0 := by
    decide +kernel
  exact h (i 0)

theorem cond2_iff (i : grid0.Coords) : k0_cond2 i = 1#1 ↔ (i 0).val = 195 := by
  have h : ∀ n : Fin 196, Scalar.cmpi .ne (Scalar.extui (Scalar.cmpi .eq (BitVec.ofNat 32 n.val) 195#32) : BitVec 32) 0#32 = 1#1 ↔ n.val = 195 := by
    decide +kernel
  exact h (i 0)

theorem before0_1 (t : Fin cfg0.N) (d) : (dat0 V).before 1 t d = stg0 V 1 t d := by
  unfold Dat.before; rw [if_pos (fetch0_1 t)]; rfl

theorem before0_2 (t : Fin cfg0.N) (d) : (dat0 V).before 2 t d = stg0 V 2 t d := by
  unfold Dat.before; rw [if_pos (fetch0_2 t)]; rfl

theorem before0_0 (t : Fin cfg0.N) (d) : (dat0 V).before 0 t d = xAt0 V t :=
  ((dat0 V).before_in_eq_fetched 0 rfl (fun _ => rfl) (fun _ _ _ => rfl) (fun t => (cfg0.win 0).cut_fill _ (junk0 0) _) t d).trans
    (Pipeline.fill_of_clip_none (cfg := cfg0) 0 _ (fun _ => rfl) _ _ _)

theorem before0_3 (t : Fin cfg0.N) (d) : (dat0 V).before 3 t d = tAt0 V t :=
  ((dat0 V).before_in_eq_fetched 3 rfl (fun _ => rfl) (fun _ _ _ => rfl) (fun t => (cfg0.win 3).cut_fill _ (junk0 3) _) t d).trans
    (Pipeline.fill_of_clip_none (cfg := cfg0) 3 _ (fun _ => rfl) _ _ _)

/-- The body meets the relations at every point. -/
theorem body_obligation0 : BodyObligationRel (dat0 V) defs₀ 𝒱₀ () Set.univ fgt0 (Rl0 V) := fun t => by
  rw [bigSep_W0, bigSep_W0]
  change iprop(Inv0 V t.val ∗ (dat0 V).owesAt () t.castSucc
      ∗ (∃ d, owns (c : Thread nD τ) (st0_0 t) fullShare ((dat0 V).before 0 t d))
      ∗ (∃ d, owns (c : Thread nD τ) (st0_1 t) fullShare ((dat0 V).before 1 t d))
      ∗ (∃ d, owns (c : Thread nD τ) (st0_2 t) fullShare ((dat0 V).before 2 t d))
      ∗ (∃ d, owns (c : Thread nD τ) (st0_3 t) fullShare ((dat0 V).before 3 t d))
      ∗ (∃ Y, ⌜((dat0 V).toRRel fgt0 (Rl0 V)).Finds 4 t Y⌝ ∗ owns (c : Thread nD τ) (st0_4 t) fullShare Y))
    ⊢ wp frame (wpE (defs₀ (F := F)) 𝒱₀ c none) Set.univ (bodyAt0 t) fun _ =>
      iprop(Inv0 V (t.val + 1) ∗ (dat0 V).owesAt () t.succ
      ∗ owns (c : Thread nD τ) (st0_0 t) fullShare (xAt0 V t)
      ∗ (∃ d, owns (c : Thread nD τ) (st0_1 t) fullShare ((cfg0.win 1).fill (grid0.coords t) d ((cfg0.win 1).cut (grid0.coords t) (stg0 V 1 t (junk0 1)))))
      ∗ (∃ d, owns (c : Thread nD τ) (st0_2 t) fullShare ((cfg0.win 2).fill (grid0.coords t) d ((cfg0.win 2).cut (grid0.coords t) (stg0 V 2 t (junk0 2)))))
      ∗ owns (c : Thread nD τ) (st0_3 t) fullShare (tAt0 V t)
      ∗ (∃ X, ⌜Rl0 V 4 t X⌝ ∗ owns (c : Thread nD τ) (st0_4 t) fullShare X))
  unfold Inv0
  iintro ⟨⟨⟨%m, %l, %hR, HM, HL⟩, HR⟩, Ho, ⟨%d0, H0⟩, ⟨%d1, H1⟩, ⟨%d2, H2⟩, ⟨%d3, H3⟩, ⟨%Y, %hY, H4⟩⟩
  rw [before0_0, before0_1, before0_2, before0_3]
  have hw1 : ∀ d, (cfg0.win 1).fill (grid0.coords t) d ((cfg0.win 1).cut (grid0.coords t) (stg0 V 1 t (junk0 1))) = wAt0 V t d := fun d => by
    unfold wAt0 stg0; rw [Pipeline.Window.cut_fill]
  have hw2 : ∀ d, (cfg0.win 2).fill (grid0.coords t) d ((cfg0.win 2).cut (grid0.coords t) (stg0 V 2 t (junk0 2))) = bAt0 V t d := fun d => by
    unfold bAt0 stg0; rw [Pipeline.Window.cut_fill]
  have hc := coords0 t
  by_cases h0 : t.val = 0
  · have hc1 : cond1 (grid0.coords t) = 1#1 := (cond1_iff _).mpr (hc.trans h0)
    have hc2 : ¬ k0_cond2 (grid0.coords t) = 1#1 := fun h => by have := (cond2_iff _).mp h; omega
    iapply (body0_first 𝒱₀ c Set.univ (grid0.coords t) (xAt0 V t) (wAt0 V t d1) (bAt0 V t d2) (tAt0 V t) Y m l _ hc1 hc2)
    isplitl [H0]; · iexact H0
    isplitl [H1]; · iexact H1
    isplitl [H2]; · iexact H2
    isplitl [H3]; · iexact H3
    isplitl [H4]; · iexact H4
    isplitl [HM]; · iexact HM
    isplitl [HL]; · iexact HL
    iintro ⟨H0, H1, H2, H3, H4, HM, HL⟩
    isplitl [HM HL HR]
    · isplitl [HM HL]
      · iexists _; iexists _
        isplitr
        · ipureintro
          exact ⟨t.isLt, m, l, d1, d2, hR, by rw [if_pos h0], by rw [if_pos h0, if_pos h0]⟩
        isplitl [HM]; · iexact HM
        iexact HL
      iexact HR
    isplitl [Ho]; · iexact Ho
    isplitl [H0]; · iexact H0
    isplitl [H1]; · iexists d1; rw [hw1]; iexact H1
    isplitl [H2]; · iexists d2; rw [hw2]; iexact H2
    isplitl [H3]; · iexact H3
    iexists Y
    isplitr
    · ipureintro
      exact fun h => absurd h (by omega)
    iexact H4
  have hc1 : ¬ cond1 (grid0.coords t) = 1#1 := fun h => h0 (hc.symm.trans ((cond1_iff _).mp h))
  by_cases h1 : t.val = 195
  · have hc2 : k0_cond2 (grid0.coords t) = 1#1 := (cond2_iff _).mpr (hc.trans h1)
    iapply (body0_last 𝒱₀ c Set.univ (grid0.coords t) (xAt0 V t) (wAt0 V t d1) (bAt0 V t d2) (tAt0 V t) Y m l _ hc1 hc2)
    isplitl [H0]; · iexact H0
    isplitl [H1]; · iexact H1
    isplitl [H2]; · iexact H2
    isplitl [H3]; · iexact H3
    isplitl [H4]; · iexact H4
    isplitl [HM]; · iexact HM
    isplitl [HL]; · iexact HL
    iintro ⟨H0, H1, H2, H3, H4, HM, HL⟩
    isplitl [HM HL HR]
    · isplitl [HM HL]
      · iexists _; iexists _
        isplitr
        · ipureintro
          exact ⟨t.isLt, m, l, d1, d2, hR, by rw [if_neg h0], by rw [if_neg h0, if_neg h0]⟩
        isplitl [HM]; · iexact HM
        iexact HL
      iexact HR
    isplitl [Ho]; · iexact Ho
    isplitl [H0]; · iexact H0
    isplitl [H1]; · iexists d1; rw [hw1]; iexact H1
    isplitl [H2]; · iexists d2; rw [hw2]; iexact H2
    isplitl [H3]; · iexact H3
    iexists _
    isplitr
    · ipureintro
      exact fun _ => ⟨m, l, d1, d2, hR, rfl⟩
    iexact H4
  · have hc2 : ¬ k0_cond2 (grid0.coords t) = 1#1 := fun h => h1 (hc.symm.trans ((cond2_iff _).mp h))
    iapply (body0_mid 𝒱₀ c Set.univ (grid0.coords t) (xAt0 V t) (wAt0 V t d1) (bAt0 V t d2) (tAt0 V t) Y m l _ hc1 hc2)
    isplitl [H0]; · iexact H0
    isplitl [H1]; · iexact H1
    isplitl [H2]; · iexact H2
    isplitl [H3]; · iexact H3
    isplitl [H4]; · iexact H4
    isplitl [HM]; · iexact HM
    isplitl [HL]; · iexact HL
    iintro ⟨H0, H1, H2, H3, H4, HM, HL⟩
    isplitl [HM HL HR]
    · isplitl [HM HL]
      · iexists _; iexists _
        isplitr
        · ipureintro
          exact ⟨t.isLt, m, l, d1, d2, hR, by rw [if_neg h0], by rw [if_neg h0, if_neg h0]⟩
        isplitl [HM]; · iexact HM
        iexact HL
      iexact HR
    isplitl [Ho]; · iexact Ho
    isplitl [H0]; · iexact H0
    isplitl [H1]; · iexists d1; rw [hw1]; iexact H1
    isplitl [H2]; · iexists d2; rw [hw2]; iexact H2
    isplitl [H3]; · iexact H3
    iexists Y
    isplitr
    · ipureintro
      exact fun h => absurd h h1
    iexact H4

end Cert.KIRun
end
-- ==== Proof.KI.Data1.lean ====
/-
  The proof data of the second call, at any buffer contents it is entered with. The result's staging buffer is held
  to what the body stores, over every word the staging buffers may hold past the ends of the weights' and the bias's
  last blocks.
-/
module

public import proofs.«01_k».proof.Proof.KI.Body1
public import proofs.«01_k».proof.Proof.KI.Data0
public import proofs.«01_k».proof.Proof.Gen.KernelIdeal.Points
public import Idealize.ShloMosaic.Lib.Pipeline.DatRel
public import Idealize.ShloMosaic.Lib.Pipeline.FrameBody

@[expose] public section

set_option maxRecDepth 16384

noncomputable section

namespace Cert.KIRun

open Cert.KernelIdeal Cert.KernelIdeal.Gen
open Cert.Run
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F]

local notation "𝕄" => MT nD τ sig Unit (Elt F) ℕ UU ℕ

section Relation

variable {c : Dev nD} (V : Vals F c)

/-- Window `w`'s staging buffer after its fetch at point `t`: the block where it lies inside the array, `d` past its end. -/
def stg1 (w : Fin cfg1.W) (t : Fin cfg1.N) (d : (cfg1.win w).block.Idx → Elt F (cfg1.win w).elt) :
    (cfg1.win w).block.Idx → Elt F (cfg1.win w).elt :=
  (cfg1.win w).fill (cfg1.grid.coords t) d (((cfg1.win w).blk t).view.read (Elt F) (V (Pipeline.arrRef spec1 w)))

/-- Some word of each type. -/
abbrev junk1 (w : Fin cfg1.W) : (cfg1.win w).block.Idx → Elt F (cfg1.win w).elt := fun _ => Classical.ofNonempty

/-- The staged activations, targets, log-normalisers, weights and bias at point `t`. -/
abbrev xAt1 (t : Fin cfg1.N) : Vec F S4096x64 .bf16 := stg1 V 0 t (junk1 0)
abbrev tAt1 (t : Fin cfg1.N) : Vec F S128x32 .i32 := stg1 V 3 t (junk1 3)
abbrev dAt1 (t : Fin cfg1.N) : Vec F S4096x1 .f32 := stg1 V 4 t (junk1 4)
abbrev wAt1 (t : Fin cfg1.N) (d : Vec F S512x64 .bf16) : Vec F S512x64 .bf16 := stg1 V 1 t d
abbrev bAt1 (t : Fin cfg1.N) (d : Vec F S1x512 .f32) : Vec F S1x512 .f32 := stg1 V 2 t d

/-- What the body may store at point `t`. -/
def OutAt (t : Fin cfg1.N) (X : Vec F S4096x512 .f32) : Prop :=
  ∃ (dw : Vec F S512x64 .bf16) (db : Vec F S1x512 .f32),
    X = out1 (grid1.coords t) (tAt1 V t) (xAt1 V t) (wAt1 V t dw) (bAt1 V t db) (dAt1 V t)

/-- What is asked of the result's staging buffer. -/
def Rl1 : (w : Fin cfg1.W) → (t : Fin cfg1.N) → ((cfg1.win w).block.Idx → Elt F (cfg1.win w).elt) → Prop
  | 5, t, X => OutAt V t X
  | _, _, _ => True

end Relation

/-- The windows held to `Rl1`: the result's. -/
def fgt1 : Fin cfg1.W → Bool := fun | 0 => false | 1 => false | 2 => false | 3 => false | 4 => false | 5 => true

/-- The proof data. -/
def dat1 {c : Dev nD} (V : Vals F c) : Dat τ (Elt F) Unit ℕ UU ℕ cfg1 c where
  A w := V (Pipeline.arrRef spec1 w)
  after w t := stg1 V w t (junk1 w)
  Φ _ := Pipeline.scopedRest spec1 c
  q _ := fullShare
  owed _ := 0

variable {c : Dev nD} (V : Vals F c)

theorem before1_1 (t : Fin cfg1.N) (d) : (dat1 V).before 1 t d = stg1 V 1 t d := by
  unfold Dat.before; rw [if_pos (fetch1_1 t)]; rfl

theorem before1_2 (t : Fin cfg1.N) (d) : (dat1 V).before 2 t d = stg1 V 2 t d := by
  unfold Dat.before; rw [if_pos (fetch1_2 t)]; rfl

theorem before1_0 (t : Fin cfg1.N) (d) : (dat1 V).before 0 t d = xAt1 V t :=
  ((dat1 V).before_in_eq_fetched 0 rfl (fun _ => rfl) (fun _ _ _ => rfl) (fun t => (cfg1.win 0).cut_fill _ (junk1 0) _) t d).trans
    (Pipeline.fill_of_clip_none (cfg := cfg1) 0 _ (fun _ => rfl) _ _ _)

theorem before1_3 (t : Fin cfg1.N) (d) : (dat1 V).before 3 t d = tAt1 V t :=
  ((dat1 V).before_in_eq_fetched 3 rfl (fun _ => rfl) (fun _ _ _ => rfl) (fun t => (cfg1.win 3).cut_fill _ (junk1 3) _) t d).trans
    (Pipeline.fill_of_clip_none (cfg := cfg1) 3 _ (fun _ => rfl) _ _ _)

theorem before1_4 (t : Fin cfg1.N) (d) : (dat1 V).before 4 t d = dAt1 V t :=
  ((dat1 V).before_in_eq_fetched 4 rfl (fun _ => rfl) (fun _ _ _ => rfl) (fun t => (cfg1.win 4).cut_fill _ (junk1 4) _) t d).trans
    (Pipeline.fill_of_clip_none (cfg := cfg1) 4 _ (fun _ => rfl) _ _ _)

/-- The body meets the relations at every point. -/
theorem body_obligation1 : BodyObligationRel (dat1 V) defs₀ 𝒱₀ () Set.univ fgt1 (Rl1 V) := fun t => by
  rw [bigSep_W1, bigSep_W1]
  change iprop((dat1 V).Φ t.castSucc ∗ (dat1 V).owesAt () t.castSucc
      ∗ (∃ d, owns (c : Thread nD τ) (st1_0 t) fullShare ((dat1 V).before 0 t d))
      ∗ (∃ d, owns (c : Thread nD τ) (st1_1 t) fullShare ((dat1 V).before 1 t d))
      ∗ (∃ d, owns (c : Thread nD τ) (st1_2 t) fullShare ((dat1 V).before 2 t d))
      ∗ (∃ d, owns (c : Thread nD τ) (st1_3 t) fullShare ((dat1 V).before 3 t d))
      ∗ (∃ d, owns (c : Thread nD τ) (st1_4 t) fullShare ((dat1 V).before 4 t d))
      ∗ (∃ Y, ⌜((dat1 V).toRRel fgt1 (Rl1 V)).Finds 5 t Y⌝ ∗ owns (c : Thread nD τ) (st1_5 t) fullShare Y))
    ⊢ wp frame (wpE (defs₀ (F := F)) 𝒱₀ c none) Set.univ (bodyAt1 t) fun _ =>
      iprop((dat1 V).Φ t.castSucc ∗ (dat1 V).owesAt () t.castSucc
      ∗ owns (c : Thread nD τ) (st1_0 t) fullShare (xAt1 V t)
      ∗ (∃ d, owns (c : Thread nD τ) (st1_1 t) fullShare ((cfg1.win 1).fill (grid1.coords t) d ((cfg1.win 1).cut (grid1.coords t) (stg1 V 1 t (junk1 1)))))
      ∗ (∃ d, owns (c : Thread nD τ) (st1_2 t) fullShare ((cfg1.win 2).fill (grid1.coords t) d ((cfg1.win 2).cut (grid1.coords t) (stg1 V 2 t (junk1 2)))))
      ∗ owns (c : Thread nD τ) (st1_3 t) fullShare (tAt1 V t)
      ∗ owns (c : Thread nD τ) (st1_4 t) fullShare (dAt1 V t)
      ∗ (∃ X, ⌜Rl1 V 5 t X⌝ ∗ owns (c : Thread nD τ) (st1_5 t) fullShare X))
  iintro ⟨HΦ, Ho, ⟨%d0, H0⟩, ⟨%d1, H1⟩, ⟨%d2, H2⟩, ⟨%d3, H3⟩, ⟨%d4, H4⟩, ⟨%Y, %hY, H5⟩⟩
  rw [before1_0, before1_1, before1_2, before1_3, before1_4]
  have hw1 : ∀ d, (cfg1.win 1).fill (grid1.coords t) d ((cfg1.win 1).cut (grid1.coords t) (stg1 V 1 t (junk1 1))) = wAt1 V t d := fun d => by
    unfold wAt1 stg1; rw [Pipeline.Window.cut_fill]
  have hw2 : ∀ d, (cfg1.win 2).fill (grid1.coords t) d ((cfg1.win 2).cut (grid1.coords t) (stg1 V 2 t (junk1 2))) = bAt1 V t d := fun d => by
    unfold bAt1 stg1; rw [Pipeline.Window.cut_fill]
  iapply (body1 𝒱₀ c Set.univ (grid1.coords t) (xAt1 V t) (wAt1 V t d1) (bAt1 V t d2) (tAt1 V t) (dAt1 V t) Y _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexists d1; rw [hw1]; iexact H1
  isplitl [H2]; · iexists d2; rw [hw2]; iexact H2
  isplitl [H3]; · iexact H3
  isplitl [H4]; · iexact H4
  iexists _
  isplitr
  · ipureintro
    exact ⟨d1, d2, rfl⟩
  iexact H5

end Cert.KIRun
end
-- ==== Proof.KI.Regs.lean ====
/-
  The two calls as segments of the program, each entered with the unscoped buffers at any contents. A call leaves its
  result's buffer at some contents its relation allows and every other buffer as it was.
-/
module

public import proofs.«01_k».proof.Proof.KI.Data1
public import proofs.«01_k».proof.Proof.Gen.KernelIdeal.Regions
public import Idealize.ShloMosaic.Lib.Pipeline.RegionArrays
public import Idealize.ShloMosaic.Lib.Pipeline.ArrRel

@[expose] public section

set_option maxRecDepth 16384

noncomputable section

namespace Cert.KIRun

open Cert.KernelIdeal Cert.KernelIdeal.Gen
open Cert.Run
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat RDat Cfg Window BodyObligationRel)

variable {F : FTy → Type} [FloatOps F]

local notation "𝕄" => MT nD τ sig Unit (Elt F) ℕ UU ℕ

/-- The contents of the buffers of each core. -/
abbrev Vs (F : FTy → Type) : Type := Dev nD → Valuation τ sig (Elt F)

/-- A core's buffers by reference. -/
abbrev refs (W : Vs F) (c : Dev nD) : Vals F c := fun b => W c (Proc.devRef .tc b)

/-- The proof data of the two calls, entered at `W₀` and `W₁`. -/
abbrev dats (W₀ W₁ : Vs F) : (p : Fin 2) → (c : Dev nD) → Dat τ (Elt F) Unit ℕ UU ℕ (Pipeline.pin (pcfgs (F := F)) adm p) c
  | 0, c => dat0 (refs W₀ c)
  | 1, c => dat1 (refs W₁ c)

/-- The same with the results' windows held to their relations. -/
abbrev rdats (W₀ W₁ : Vs F) : (p : Fin 2) → (c : Dev nD) → RDat τ (Elt F) Unit ℕ UU ℕ (Pipeline.pin (pcfgs (F := F)) adm p) c
  | 0, c => (dat0 (refs W₀ c)).toRRel fgt0 (Rl0 (refs W₀ c))
  | 1, c => (dat1 (refs W₁ c)).toRRel fgt1 (Rl1 (refs W₁ c))

/-- No wait is recorded and nothing is owed. -/
abbrev L₀ : GSem nD τ sig → Finset Unit := fun _ => ∅
abbrev lv₀ : GSem nD τ sig → Unit → ℕ := fun _ _ => 0

/-- The core owes nothing. -/
abbrev Ow (c : Dev nD) : sProp 𝕄 := iprop(∃ Wd, owes (c : Thread nD τ) (0 : CellTallies nD τ sig Unit) Wd)

/-- What the first call may leave in its result's buffer. -/
def Left0 (W₀ : Vs F) (c : Dev nD) (A : Vec F S4096x1 .f32) : Prop :=
  ((dat0 (refs W₀ c)).toRRel fgt0 (Rl0 (refs W₀ c))).ArrAt 4 cfg0.N A

/-- What the second call may leave in its result's buffer. -/
def Left1 (W₁ : Vs F) (c : Dev nD) (A : Vec F S4096x100000 .f32) : Prop :=
  ((dat1 (refs W₁ c)).toRRel fgt1 (Rl1 (refs W₁ c))).ArrAt 5 cfg1.N A

/-- The buffers with the first call's result replaced. -/
abbrev put4 (W : Valuation τ sig (Elt F)) (A : Vec F S4096x1 .f32) : Valuation τ sig (Elt F) :=
  Function.update W (Proc.devRef .tc main_v4) A

/-- The buffers with the second call's result replaced. -/
abbrev put5 (W : Valuation τ sig (Elt F)) (A : Vec F S4096x100000 .f32) : Valuation τ sig (Elt F) :=
  Function.update W (Proc.devRef .tc main_v5) A

theorem arrs0_sub : Pipeline.arrRefs (τ := τ) spec0 ⊆ Pipeline.ucRefs τ sig :=
  Pipeline.arrRefs_sub_ucRefs spec0 (by decide)

theorem arrs1_sub : Pipeline.arrRefs (τ := τ) spec1 ⊆ Pipeline.ucRefs τ sig :=
  Pipeline.arrRefs_sub_ucRefs spec1 (by decide)

set_option backward.isDefEq.respectTransparency.types false in
/-- The first call's arrays, held. -/
theorem arrays0 (W₀ W₁ : Vs F) (c : Dev nD) (G) (Wc : Valuation τ sig (Elt F))
    (hG : ∀ w, G w = Wc (Proc.devRef .tc (Pipeline.arrRef spec0 w))) :
    ((dat0 (refs W₀ c)).arrays G : sProp 𝕄) = held (c : Thread nD τ) (Pipeline.arrRefs spec0) Wc :=
  Pipeline.arrays_held (pcfgs (F := F)) adm (dats W₀ W₁) 0 launch0.toP c
    ((dat0 (refs W₀ c)).share_full fun _ => rfl) G Wc hG

set_option backward.isDefEq.respectTransparency.types false in
/-- The second call's arrays, held. -/
theorem arrays1 (W₀ W₁ : Vs F) (c : Dev nD) (G) (Wc : Valuation τ sig (Elt F))
    (hG : ∀ w, G w = Wc (Proc.devRef .tc (Pipeline.arrRef spec1 w))) :
    ((dat1 (refs W₁ c)).arrays G : sProp 𝕄) = held (c : Thread nD τ) (Pipeline.arrRefs spec1) Wc :=
  Pipeline.arrays_held (pcfgs (F := F)) adm (dats W₀ W₁) 1 launch1.toP c
    ((dat1 (refs W₁ c)).share_full fun _ => rfl) G Wc hG

/-- Arrays at some contents each may hold are arrays at one choice of contents. -/
theorem arraysAt_choose {cfg : Cfg sig Λ₀} {c : Dev nD} (dat : Dat τ (Elt F) Unit ℕ UU ℕ cfg c) (fgt : Fin cfg.W → Bool) (Rl) (n : ℕ) :
    ((dat.toRRel fgt Rl).arraysAt n : sProp 𝕄) ⊢ iprop(∃ A, ⌜∀ w, (dat.toRRel fgt Rl).ArrAt w n (A w)⌝ ∗ dat.arrays A) := by
  unfold RDat.arraysAt Dat.arrays
  refine (BI.bigSep_exists_pi Finset.univ _).trans ?_
  iintro ⟨%A, H⟩
  ihave H' := (BI.bigSep_pure_sep Finset.univ (fun w => (dat.toRRel fgt Rl).ArrAt w n (A w)) _) $$ H
  icases H' with ⟨%hA, H⟩
  iexists A
  isplitr
  · ipureintro; exact fun w => hA w (Finset.mem_univ w)
  iexact H

/-- The call's arrays after it and the other buffers make all the buffers, the result's replaced. -/
theorem back0 (W₀ W₁ : Vs F) (c : Dev nD) (A)
    (hA : ∀ w, ((dat0 (refs W₀ c)).toRRel fgt0 (Rl0 (refs W₀ c))).ArrAt w cfg0.N (A w)) :
    iprop((dat0 (refs W₀ c)).arrays A ∗ held (c : Thread nD τ) (Pipeline.ucRefs τ sig \ Pipeline.arrRefs spec0) (W₀ c))
      ⊢ (held (c : Thread nD τ) (Pipeline.ucRefs τ sig) (put4 (W₀ c) (A 4)) : sProp 𝕄) := by
  have hin : ∀ w, A w = put4 (W₀ c) (A 4) (Proc.devRef .tc (Pipeline.arrRef spec0 w)) := fun w =>
    match w with
    | 0 => (show A 0 = W₀ c (Proc.devRef .tc main_v1) from (congrFun (RDat.ArrAt_in _ 0 rfl _) _).mp (hA 0)).trans
        (Function.update_of_ne (a := Proc.devRef .tc main_v1) (a' := Proc.devRef .tc main_v4) (by decide) (A 4) (W₀ c)).symm
    | 1 => (show A 1 = W₀ c (Proc.devRef .tc main_v2) from (congrFun (RDat.ArrAt_in _ 1 rfl _) _).mp (hA 1)).trans
        (Function.update_of_ne (a := Proc.devRef .tc main_v2) (a' := Proc.devRef .tc main_v4) (by decide) (A 4) (W₀ c)).symm
    | 2 => (show A 2 = W₀ c (Proc.devRef .tc main_v3) from (congrFun (RDat.ArrAt_in _ 2 rfl _) _).mp (hA 2)).trans
        (Function.update_of_ne (a := Proc.devRef .tc main_v3) (a' := Proc.devRef .tc main_v4) (by decide) (A 4) (W₀ c)).symm
    | 3 => (show A 3 = W₀ c (Proc.devRef .tc main_arg1) from (congrFun (RDat.ArrAt_in _ 3 rfl _) _).mp (hA 3)).trans
        (Function.update_of_ne (a := Proc.devRef .tc main_arg1) (a' := Proc.devRef .tc main_v4) (by decide) (A 4) (W₀ c)).symm
    | 4 => (Function.update_self (Proc.devRef .tc main_v4) (A 4) (W₀ c)).symm
  have hne : ∀ b ∈ Pipeline.ucRefs τ sig \ Pipeline.arrRefs spec0, put4 (W₀ c) (A 4) b = W₀ c b := fun b hb =>
    Function.update_of_ne (fun h : b = Proc.devRef .tc main_v4 => (Finset.mem_sdiff.mp hb).2 (by rw [h]; decide)) _ _
  rw [arrays0 W₀ W₁ c A (put4 (W₀ c) (A 4)) hin, StableHlo.held_sub_split (c : Thread nD τ) arrs0_sub (put4 (W₀ c) (A 4)),
    StableHlo.held_congr (c : Thread nD τ) hne]

/-- The call's arrays after it and the other buffers make all the buffers, the result's replaced. -/
theorem back1 (W₀ W₁ : Vs F) (c : Dev nD) (A)
    (hA : ∀ w, ((dat1 (refs W₁ c)).toRRel fgt1 (Rl1 (refs W₁ c))).ArrAt w cfg1.N (A w)) :
    iprop((dat1 (refs W₁ c)).arrays A ∗ held (c : Thread nD τ) (Pipeline.ucRefs τ sig \ Pipeline.arrRefs spec1) (W₁ c))
      ⊢ (held (c : Thread nD τ) (Pipeline.ucRefs τ sig) (put5 (W₁ c) (A 5)) : sProp 𝕄) := by
  have hin : ∀ w, A w = put5 (W₁ c) (A 5) (Proc.devRef .tc (Pipeline.arrRef spec1 w)) := fun w =>
    match w with
    | 0 => (show A 0 = W₁ c (Proc.devRef .tc main_v1) from (congrFun (RDat.ArrAt_in _ 0 rfl _) _).mp (hA 0)).trans
        (Function.update_of_ne (a := Proc.devRef .tc main_v1) (a' := Proc.devRef .tc main_v5) (by decide) (A 5) (W₁ c)).symm
    | 1 => (show A 1 = W₁ c (Proc.devRef .tc main_v2) from (congrFun (RDat.ArrAt_in _ 1 rfl _) _).mp (hA 1)).trans
        (Function.update_of_ne (a := Proc.devRef .tc main_v2) (a' := Proc.devRef .tc main_v5) (by decide) (A 5) (W₁ c)).symm
    | 2 => (show A 2 = W₁ c (Proc.devRef .tc main_v3) from (congrFun (RDat.ArrAt_in _ 2 rfl _) _).mp (hA 2)).trans
        (Function.update_of_ne (a := Proc.devRef .tc main_v3) (a' := Proc.devRef .tc main_v5) (by decide) (A 5) (W₁ c)).symm
    | 3 => (show A 3 = W₁ c (Proc.devRef .tc main_arg1) from (congrFun (RDat.ArrAt_in _ 3 rfl _) _).mp (hA 3)).trans
        (Function.update_of_ne (a := Proc.devRef .tc main_arg1) (a' := Proc.devRef .tc main_v5) (by decide) (A 5) (W₁ c)).symm
    | 4 => (show A 4 = W₁ c (Proc.devRef .tc main_v4) from (congrFun (RDat.ArrAt_in _ 4 rfl _) _).mp (hA 4)).trans
        (Function.update_of_ne (a := Proc.devRef .tc main_v4) (a' := Proc.devRef .tc main_v5) (by decide) (A 5) (W₁ c)).symm
    | 5 => (Function.update_self (Proc.devRef .tc main_v5) (A 5) (W₁ c)).symm
  have hne : ∀ b ∈ Pipeline.ucRefs τ sig \ Pipeline.arrRefs spec1, put5 (W₁ c) (A 5) b = W₁ c b := fun b hb =>
    Function.update_of_ne (fun h : b = Proc.devRef .tc main_v5 => (Finset.mem_sdiff.mp hb).2 (by rw [h]; decide)) _ _
  rw [arrays1 W₀ W₁ c A (put5 (W₁ c) (A 5)) hin, StableHlo.held_sub_split (c : Thread nD τ) arrs1_sub (put5 (W₁ c) (A 5)),
    StableHlo.held_congr (c : Thread nD τ) hne]

set_option backward.isDefEq.respectTransparency.types false in
/-- The first call as a segment; `E` rides along. -/
def reg0 (W₀ W₁ : Vs F) (E : Dev nD → sProp 𝕄) :
    RDat.RegionSeg (pcfgs (F := F)) adm (rdats W₀ W₁) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (refs W₀ c)).toRRel
  hwaits := RDat.hwaits_of_owed_zero _ _ _ _ L₀ lv₀ 0 fun _ _ => rfl
  pre c := iprop(held (c : Thread nD τ) (Pipeline.ucRefs τ sig) (W₀ c) ∗ (Ow c ∗ E c))
  post c := iprop(∃ A, ⌜Left0 W₀ c A⌝ ∗ held (c : Thread nD τ) (Pipeline.ucRefs τ sig) (put4 (W₀ c) A) ∗ (Ow c ∗ E c))
  X _ := BI.emp
  Y _ := BI.emp
  Z c := iprop(held (c : Thread nD τ) (Pipeline.ucRefs τ sig \ Pipeline.arrRefs spec0) (W₀ c) ∗ E c)
  hentry c := by
    rw [Pipeline.ownSems0_none, Pipeline.prefHeld_of_none _ rfl]
    change _ ⊢ |={Set.univ}=> iprop((dat0 (refs W₀ c)).arrays (dat0 (refs W₀ c)).A ∗ _ ∗ (dat0 (refs W₀ c)).owesAt () 0 ∗ _ ∗ _)
    rw [arrays0 W₀ W₁ c (dat0 (refs W₀ c)).A (W₀ c) (fun _ => rfl), StableHlo.held_sub_split (c : Thread nD τ) arrs0_sub (W₀ c)]
    iintro ⟨⟨⟨Ha, Hr⟩, HO, HE⟩, -, -⟩
    imodintro
    isplitl [Ha]; · iexact Ha
    isplitr; · iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hr]; · iexact Hr
    iexact HE
  hin c := by
    rw [Pipeline.prefHeld_of_none _ rfl]
    change _ ⊢ Inv0 (refs W₀ c) 0
    change iprop(BI.emp ∗ BI.emp ∗ Pipeline.scopedRest spec0 c) ⊢ _
    rw [scopedRest0_eq]
    unfold Inv0 rest0
    iintro ⟨-, -, ⟨%f0, H0⟩, ⟨%f1, H1⟩, Hr⟩
    isplitr [Hr]
    · iexists f0; iexists f1
      isplitr; · ipureintro; trivial
      rw [owns_whole, owns_whole]
      isplitl [H0]; · iexact H0
      iexact H1
    iexact Hr
  hout c := by
    rw [Pipeline.ownSems0_none]
    change Inv0 (refs W₀ c) 196 ⊢ iprop(BI.emp ∗ BI.emp ∗ Pipeline.scopedRest spec0 c)
    rw [scopedRest0_eq]
    unfold Inv0 rest0
    simp only [owns_whole]
    iintro ⟨⟨%m, %l, -, H0, H1⟩, Hr⟩
    isplitr; · iempintro
    isplitr; · iempintro
    isplitl [H0]; · iexists _; iexact H0
    isplitl [H1]; · iexists _; iexact H1
    iexact Hr
  hexit c := by
    change iprop(((dat0 (refs W₀ c)).toRRel fgt0 (Rl0 (refs W₀ c))).arraysAt cfg0.N ∗ (dat0 (refs W₀ c)).owesAt () (Fin.last cfg0.N) ∗ _ ∗ _) ⊢ _
    iintro ⟨Ha, HO, -, ⟨Hr, HE⟩⟩
    ihave Ha := (arraysAt_choose (dat0 (refs W₀ c)) fgt0 (Rl0 (refs W₀ c)) cfg0.N) $$ Ha
    icases Ha with ⟨%A, %hA, Ha⟩
    imodintro
    iexists (A 4)
    isplitr; · ipureintro; exact hA 4
    isplitl [Ha Hr]
    · iapply (back0 W₀ W₁ c A hA)
      isplitl [Ha]; · iexact Ha
      iexact Hr
    isplitl [HO]
    · unfold Pipeline.Dat.owesAt Pipeline.owesWithin
      icases HO with ⟨%W, -, HO⟩; iexists W; iexact HO
    iexact HE

set_option backward.isDefEq.respectTransparency.types false in
/-- The second call as a segment; `E` rides along. -/
def reg1 (W₀ W₁ : Vs F) (E : Dev nD → sProp 𝕄) :
    RDat.RegionSeg (pcfgs (F := F)) adm (rdats W₀ W₁) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (refs W₁ c)).toRRel
  hwaits := RDat.hwaits_of_owed_zero _ _ _ _ L₀ lv₀ 1 fun _ _ => rfl
  pre c := iprop(held (c : Thread nD τ) (Pipeline.ucRefs τ sig) (W₁ c) ∗ (Ow c ∗ E c))
  post c := iprop(∃ A, ⌜Left1 W₁ c A⌝ ∗ held (c : Thread nD τ) (Pipeline.ucRefs τ sig) (put5 (W₁ c) A) ∗ (Ow c ∗ E c))
  X _ := BI.emp
  Y _ := BI.emp
  Z c := iprop(held (c : Thread nD τ) (Pipeline.ucRefs τ sig \ Pipeline.arrRefs spec1) (W₁ c) ∗ E c)
  hentry c := by
    rw [Pipeline.ownSems0_none, Pipeline.prefHeld_of_none _ rfl]
    change _ ⊢ |={Set.univ}=> iprop((dat1 (refs W₁ c)).arrays (dat1 (refs W₁ c)).A ∗ _ ∗ (dat1 (refs W₁ c)).owesAt () 0 ∗ _ ∗ _)
    rw [arrays1 W₀ W₁ c (dat1 (refs W₁ c)).A (W₁ c) (fun _ => rfl), StableHlo.held_sub_split (c : Thread nD τ) arrs1_sub (W₁ c)]
    iintro ⟨⟨⟨Ha, Hr⟩, HO, HE⟩, -, -⟩
    imodintro
    isplitl [Ha]; · iexact Ha
    isplitr; · iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hr]; · iexact Hr
    iexact HE
  hin c := by
    rw [Pipeline.prefHeld_of_none _ rfl]
    change iprop(BI.emp ∗ BI.emp ∗ Pipeline.scopedRest spec1 c) ⊢ Pipeline.scopedRest spec1 c
    iintro ⟨-, -, Hr⟩
    iexact Hr
  hout c := by
    rw [Pipeline.ownSems0_none]
    change Pipeline.scopedRest spec1 c ⊢ iprop(BI.emp ∗ BI.emp ∗ Pipeline.scopedRest spec1 c)
    iintro Hr
    isplitr; · iempintro
    isplitr; · iempintro
    iexact Hr
  hexit c := by
    change iprop(((dat1 (refs W₁ c)).toRRel fgt1 (Rl1 (refs W₁ c))).arraysAt cfg1.N ∗ (dat1 (refs W₁ c)).owesAt () (Fin.last cfg1.N) ∗ _ ∗ _) ⊢ _
    iintro ⟨Ha, HO, -, ⟨Hr, HE⟩⟩
    ihave Ha := (arraysAt_choose (dat1 (refs W₁ c)) fgt1 (Rl1 (refs W₁ c)) cfg1.N) $$ Ha
    icases Ha with ⟨%A, %hA, Ha⟩
    imodintro
    iexists (A 5)
    isplitr; · ipureintro; exact hA 5
    isplitl [Ha Hr]
    · iapply (back1 W₀ W₁ c A hA)
      isplitl [Ha]; · iexact Ha
      iexact Hr
    isplitl [HO]
    · unfold Pipeline.Dat.owesAt Pipeline.owesWithin
      icases HO with ⟨%W, -, HO⟩; iexists W; iexact HO
    iexact HE

end Cert.KIRun
end
-- ==== Proof.KI.Run.lean ====
/-
  The whole program: the host operations, the two calls and the closing reshape, run from any memory. Every execution
  ends, with the arguments and every semaphore counter as they were and the results' buffers at contents the calls'
  relations allow.
-/
module

public import proofs.«01_k».proof.Proof.KI.Regs
public import Idealize.ShloMosaic.Lib.Pipeline.Launch

@[expose] public section

set_option maxRecDepth 16384

noncomputable section

namespace Cert.KIRun

open Cert.KernelIdeal Cert.KernelIdeal.Gen
open Cert.Run
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat RDat Cfg Window BodyObligationRel HostSeg)

variable {F : FTy → Type} [FloatOps F]

local notation "𝕄" => MT nD τ sig Unit (Elt F) ℕ UU ℕ

/-- The copies of the pipelines' resources: the first call's and the second's. -/
abbrev EP₁ : Emb (UR sig nD τ) (MT nD τ sig Unit (Elt F) ℕ UU ℕ) := embL
abbrev EP₂ : Emb (UR sig nD τ) (MT nD τ sig Unit (Elt F) ℕ UU ℕ) := embR

/-- The pipelines' launch element. -/
abbrev uP : UR sig nD τ := initOf (Pipeline.cells cfgs cellOf_inj) (Pipeline.launchToks cfgs cellOf_inj)

/-- The second call's resources, kept aside until it runs. -/
def Gh (c : Dev nD) : sProp 𝕄 :=
  iprop(Pipeline.cellsGhost (Pipeline.pin (pcfgs (F := F)) adm) EP₂ 1 c ∗ Pipeline.toksInit (Pipeline.pin (pcfgs (F := F)) adm) EP₂ 1 c)

variable (m : (ℓ : Loc nD τ sig) → Buf (Elt F) ℓ)

/-- The buffers as the first call finds them, as the second does when the first left `A`, and as the last host
    operation does when the second left `B`. -/
abbrev W1 : Vs F := fun c => V1 m c
abbrev W2 (A : Vec F S4096x1 .f32) : Vs F := fun c => put4 (V1 m c) A
abbrev W3 (A : Vec F S4096x1 .f32) (B : Vec F S4096x100000 .f32) : Vs F := fun c => put5 (put4 (V1 m c) A) B

/-- What the two calls may leave. -/
def Left (c : Dev nD) (A : Vec F S4096x1 .f32) (B : Vec F S4096x100000 .f32) : Prop :=
  Left0 (W1 m) c A ∧ Left1 (W2 m A) c B

set_option backward.isDefEq.respectTransparency.types false in
/-- The second call from whatever the first left. -/
def call1 : HostSeg (Ix := Unit) (Name := ℕ) (U := UU) (Lvl := ℕ) (pcfgs (F := F)) defs₀ 𝒱₀ L₀ lv₀ where
  prog := Prog.lift (.customCall (Pipeline.entry 1) ())
  pre c := iprop(∃ A, ⌜Left0 (W1 m) c A⌝ ∗ held (c : Thread nD τ) (Pipeline.ucRefs τ sig) (W2 m A c) ∗ (Ow c ∗ Gh c))
  post c := iprop(∃ A B, ⌜Left m c A B⌝ ∗ held (c : Thread nD τ) (Pipeline.ucRefs τ sig) (W3 m A B c) ∗ Ow c)
  run c {β} k K := by
    iintro ⟨Hk, Hb, ⟨%A, %hA, Hh, HO, HG⟩, HL⟩
    have hw := RDat.RegionSeg.wp (pcfgs (F := F)) adm (rdats (W1 m) (W2 m A)) () cellOf_inj EP₂ defs₀ 𝒱₀ L₀ lv₀
      (reg1 (W1 m) (W2 m A) (fun _ => BI.emp)) c none (fun u h => nomatch h) k K
    rw [show (reg1 (W1 m) (W2 m A) (fun _ => BI.emp)).pre c
        = iprop(held (c : Thread nD τ) (Pipeline.ucRefs τ sig) (W2 m A c) ∗ (Ow c ∗ BI.emp)) from rfl,
      show (reg1 (W1 m) (W2 m A) (fun _ => BI.emp)).post c
        = iprop(∃ B, ⌜Left1 (W2 m A) c B⌝ ∗ held (c : Thread nD τ) (Pipeline.ucRefs τ sig) (put5 (W2 m A c) B) ∗ (Ow c ∗ BI.emp)) from rfl] at hw
    iapply hw
    unfold Gh
    icases HG with ⟨HG1, HG2⟩
    isplitl [Hk]
    · iintro ⟨Hb, %B, %hB, Hh, HO, -⟩
      iapply Hk
      isplitl [Hb]; · iexact Hb
      iexists A; iexists B
      isplitr; · ipureintro; exact ⟨hA, hB⟩
      isplitl [Hh]; · iexact Hh
      iexact HO
    isplitl [Hb]; · iexact Hb
    isplitl [Hh HO]
    · isplitl [Hh]; · iexact Hh
      isplitl [HO]; · iexact HO
      iempintro
    isplitl [HL]; · iexact HL
    isplitl [HG1]; · iexact HG1
    iexact HG2

/-- What the program ends with. -/
def Tend (c : Dev nD) : sProp 𝕄 :=
  iprop(∃ A B, ⌜Left m c A B⌝ ∗ held (c : Thread nD τ) (Pipeline.ucRefs τ sig) (StableHlo.after hostOps2 (W3 m A B c)))

set_option backward.isDefEq.respectTransparency.types false in
/-- The last host operation from whatever the calls left. -/
def tail1 : HostSeg (Ix := Unit) (Name := ℕ) (U := UU) (Lvl := ℕ) (pcfgs (F := F)) defs₀ 𝒱₀ L₀ lv₀ where
  prog := StableHlo.seq hostOps2
  pre c := iprop(∃ A B, ⌜Left m c A B⌝ ∗ held (c : Thread nD τ) (Pipeline.ucRefs τ sig) (W3 m A B c) ∗ Ow c)
  post c := iprop(Tend m c ∗ Ow c)
  run c {β} k K := by
    iintro ⟨Hk, Hb, ⟨%A, %B, %hAB, Hh, HO⟩, HL⟩
    have hseq := (HostSeg.ofOps (Ix := Unit) (Name := ℕ) (U := UU) (Lvl := ℕ) (pcfgs (F := F)) defs₀ 𝒱₀ L₀ lv₀ (Pipeline.ucRefs τ sig) hostOps2
      (fun op h => Pipeline.sub_ucRefs op ((List.forall_iff_forall_mem.mp hostOps2_sub) op h))
      (fun op h => (List.forall_iff_forall_mem.mp hostOps2_fresh) op h) (W3 m A B) Ow).run c k K
    dsimp only [HostSeg.ofOps] at hseq
    iapply hseq
    isplitl [Hk]
    · iintro ⟨Hb, Hh, HO⟩
      iapply Hk
      isplitl [Hb]; · iexact Hb
      isplitr [HO]
      · unfold Tend
        iexists A; iexists B
        isplitr; · ipureintro; exact hAB
        iexact Hh
      iexact HO
    isplitl [Hb]; · iexact Hb
    isplitl [Hh HO]
    · isplitl [Hh]; · iexact Hh
      iexact HO
    iexact HL

/-- Of resources of each call on each core, the second call's. -/
theorem pick1 (Φ : Dev nD → Fin 2 → sProp 𝕄) :
    (bigSep Finset.univ fun c : Dev nD => bigSep Finset.univ fun p => Φ c p) ⊢ bigSep Finset.univ fun c : Dev nD => Φ c 1 :=
  bigSep_mono fun _ _ => bigSep_elim (Finset.mem_univ _)

/-- The program as segments. -/
abbrev segsK : List (RDat.Seg (pcfgs (F := F)) adm (rdats (W1 m) (W1 m)) () defs₀ 𝒱₀ L₀ lv₀) :=
  [.host (seg0 m 𝒱₀ L₀ lv₀ (fun _ c => iprop(Ow c ∗ Gh c))), .region (reg0 (W1 m) (W1 m) Gh), .host (call1 m), .host (tail1 m)]

/-- What a final memory is said to hold on a core. -/
def Ends (c : Dev nD) (s : MemSt nD τ sig (Elt F)) : Prop :=
  ∃ A B, Left m c A B ∧ ∀ b ∈ Pipeline.ucRefs τ sig, s.mem (c, b) = StableHlo.after hostOps2 (W3 m A B c) b

set_option backward.isDefEq.respectTransparency.types false in
/-- Every weakly fair execution ends, in a memory as `Ends` says, every semaphore counter at zero. -/
theorem run_main (ρ : Dev nD → PrngReg) :
    θ_run defs (onTc (τ := τ) (main (F := F))) ⟨m, fun _ => 0, ρ⟩ (fun r => (∀ c, Ends m c r.2) ∧ r.2.sem = fun _ => 0) :=
  RDat.θ_run_regions_kit_sems (pcfgs (F := F)) adm (rdats (W1 m) (W1 m)) () cellOf_inj EP₁ defs₀ 𝒱₀ L₀ lv₀ m ρ main (segsK m)
    (fun c Q => by
      rewrite [main_chain c, RDat.Seg.run_eq_chain,
        show (segsK m).map RDat.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (by simp only [RDat.Seg.pipes_host, RDat.Seg.pipes_region, RDat.Seg.pipes_nil]; decide) (O₀ := 0) (hL := fun _ _ => rfl)
    (G := Gh) (u₀ := (uP, uP))
    (hu₀ := by
      iintro Hu
      ihave H := (ownU_pair _ _) $$ Hu
      icases H with ⟨HP, H2⟩
      imod (Pipeline.fund_ghost (Pipeline.pin (pcfgs (F := F)) adm) EP₂ cellOf_inj) $$ H2 with ⟨Hg, Ht⟩
      imodintro
      isplitl [HP]; · iexact HP
      unfold Gh
      rw [BI.bigSep_sep']
      isplitl [Hg]
      · iapply (pick1 _) $$ Hg
      · iapply (pick1 _) $$ Ht)
    (T₀ := fun c => iprop(held (c : Thread nD τ) (Pipeline.ucRefs τ sig) (V0 m c) ∗ (Ow c ∗ Gh c))) (Tₙ := Tend m)
    (hch := ⟨fun _ => .rfl, fun _ => .rfl, fun _ => .rfl, fun _ => .rfl, fun _ => .rfl⟩)
    (hinit := by
      refine Pipeline.initEach L₀ lv₀ fun c => ?_
      rw [show unscopedBufs c (fun b => m ((c : Thread nD τ).loc b)) = held (c : Thread nD τ) (Pipeline.ucRefs τ sig) (V0 m c) from Pipeline.unscopedBufs_held c (V0 m c)]
      iintro ⟨⟨Hh, -, HO, -, -, HG⟩, -⟩
      imodintro
      isplitl [Hh]; · iexact Hh
      isplitl [HO]; · iexists ∅; iexact HO
      iexact HG)
    (QY := Ends m)
    (hfin := fun c s' => by
      unfold Tend held
      iintro ⟨⟨%A, %B, %hAB, Hh⟩, HSI⟩
      ihave Hr := (pointsTo_read_all (Pipeline.ucRefs τ sig) (fun b => ((c : Thread nD τ).1, b)) (StableHlo.after hostOps2 (W3 m A B c)) s') $$ [Hh HSI]
      · isplitl [Hh] <;> iassumption
      icases Hr with ⟨%h, HSI⟩
      imodintro
      isplitr
      · ipureintro
        exact ⟨A, B, hAB, h⟩
      iexact HSI)
    (hQ := fun _ h hz => ⟨h, funext fun g => hz g (.inr (regions_no_unscoped g.2))⟩)

end Cert.KIRun
end
-- ==== Proof.KI.Frame.lean ====
/-
  What a final memory holds, read at the arguments and at the result: the arguments are as launched; the result is the
  second call's output regrouped.
-/
module

public import proofs.«01_k».proof.Proof.KI.Run

@[expose] public section

set_option maxRecDepth 16384

noncomputable section

namespace Cert.KIRun

open Cert.KernelIdeal Cert.KernelIdeal.Gen
open Idealize.ShloMosaic
open Idealize.ShloMosaic.TcCoe
open Idealize.SL.Sem

variable {F : FTy → Type} [FloatOps F]

variable (m : (ℓ : Loc nD τ sig) → Buf (Elt F) ℓ)

/-- A buffer that neither the host operations nor the calls write ends as launched. -/
theorem W3_of (A : Vec F S4096x1 .f32) (B : Vec F S4096x100000 .f32) (c : Dev nD) (r : Ref sig .tc)
    (h : r ∉ hostOps0_W) (h2 : r ∉ hostOps2_W) (h4 : Proc.devRef (τ := τ) .tc r ≠ Proc.devRef (τ := τ) .tc main_v4)
    (h5 : Proc.devRef (τ := τ) .tc r ≠ Proc.devRef (τ := τ) .tc main_v5) :
    StableHlo.after hostOps2 (W3 m A B c) (Proc.devRef (τ := τ) .tc r) = m (c, Proc.devRef (τ := τ) .tc r) := by
  rw [StableHlo.after_of_writes_sub hostOps2 _ hostOps2_writes h2]
  unfold W3 put5 put4
  rw [Function.update_of_ne h5, Function.update_of_ne h4]
  exact StableHlo.after_of_writes_sub hostOps0 _ hostOps0_writes h

/-- The arguments end as launched. -/
def Kept (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)

theorem Ends.kept {c : Dev nD} {s : MemSt nD τ sig (Elt F)} (h : Ends m c s) : Kept m c s := by
  obtain ⟨A, B, -, h⟩ := h
  exact ⟨(h _ (Finset.mem_filter.mpr ⟨StableHlo.devRef_mem_tcRefs main_arg0, by decide⟩)).trans
      (W3_of m A B c main_arg0 (by decide) (by decide) (by decide) (by decide)),
    (h _ (Finset.mem_filter.mpr ⟨StableHlo.devRef_mem_tcRefs main_arg1, by decide⟩)).trans
      (W3_of m A B c main_arg1 (by decide) (by decide) (by decide) (by decide)),
    (h _ (Finset.mem_filter.mpr ⟨StableHlo.devRef_mem_tcRefs main_arg2, by decide⟩)).trans
      (W3_of m A B c main_arg2 (by decide) (by decide) (by decide) (by decide)),
    (h _ (Finset.mem_filter.mpr ⟨StableHlo.devRef_mem_tcRefs main_arg3, by decide⟩)).trans
      (W3_of m A B c main_arg3 (by decide) (by decide) (by decide) (by decide))⟩

/-- The program runs, keeps its arguments, and ends with every semaphore counter at zero. -/
theorem frame_main (ρ : Dev nD → PrngReg) :
    θ_run defs (onTc (τ := τ) (main (F := F))) ⟨m, fun _ => 0, ρ⟩ (fun r => (∀ c, Kept m c r.2) ∧ r.2.sem = fun _ => 0) :=
  (θ_run defs _ _).mono (fun _ h => ⟨fun c => (h.1 c).kept, h.2⟩) (run_main m ρ)

end Cert.KIRun
end
-- ==== Proof.Ref.Frame.lean ====
/-
  The reference runs: it keeps its arguments and every semaphore counter ends at zero.
-/
module

public import proofs.«01_k».proof.Proof.Gen.ReferenceIdeal.Run
public import Idealize.ShloMosaic.Lib.Quiescent

@[expose] public section

set_option maxRecDepth 16384

noncomputable section

namespace Cert.RefRun

open Cert.ReferenceIdeal Cert.ReferenceIdeal.Gen
open Idealize.ShloMosaic
open Idealize.ShloMosaic.TcCoe
open Idealize.SL.Sem

variable {F : FTy → Type} [FloatOps F]

/-- The arguments end as launched. -/
def Kept (m : (ℓ : Loc nD τ sig) → Buf (Elt F) ℓ) (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)

/-- The program runs, keeps its arguments, and ends with every semaphore counter at zero. -/
theorem frame_main (m : (ℓ : Loc nD τ sig) → Buf (Elt F) ℓ) (ρ : Dev nD → PrngReg) :
    θ_run defs (onTc (τ := τ) (main (F := F))) ⟨m, fun _ => 0, ρ⟩ (fun r => (∀ c, Kept m c r.2) ∧ r.2.sem = fun _ => 0) :=
  (θ_run defs _ _).mono (fun _ h => ⟨fun c => (h c).2, sem_eq_zero_of_no_sems (by decide) _⟩) (Value.run m ρ)

end Cert.RefRun
end
-- ==== Proof.Val.Softmax.lean ====
/-
  The mathematics of one row: logits that are real numbers or −∞, their weights (the exponential, zero at −∞), one step
  of the running maximum and the running sum, and the two ways of writing the normalised row.
-/
module

public import Idealize.ShloMosaic.PureOps.Ideal.Laws
public import Mathlib.Data.EReal.Operations

@[expose] public section

noncomputable section

namespace Cert.Row

open Idealize.ShloMosaic
open scoped BigOperators

/-- The weight of a logit: its exponential, zero at −∞. -/
def weight (z : EReal) : ℝ := if z = ⊥ then 0 else Real.exp z.toReal

theorem weight_bot : weight ⊥ = 0 := if_pos rfl
theorem weight_coe (x : ℝ) : weight (x : EReal) = Real.exp x := by
  unfold weight; rw [if_neg (EReal.coe_ne_bot x), EReal.toReal_coe]
theorem weight_nonneg (z : EReal) : 0 ≤ weight z := by
  unfold weight; split
  · exact le_rfl
  · exact (Real.exp_pos _).le
theorem weight_pos {z : EReal} (h : z ≠ ⊥) : 0 < weight z := by
  unfold weight; rw [if_neg h]; exact Real.exp_pos _

/-- The exponential of a logit less a real number. -/
theorem exp_sub_coe {z : EReal} (h : z ≠ ⊤) (μ : ℝ) : Ideal.exp (z - (μ : EReal)) = ((Real.exp (-μ) * weight z : ℝ) : EReal) := by
  induction z with
  | bot => rw [weight_bot, mul_zero, EReal.bot_sub, Ideal.exp_bot]; rfl
  | top => exact absurd rfl h
  | coe x => rw [weight_coe, ← EReal.coe_sub, Ideal.exp_coe, ← Real.exp_add]; congr 2; ring

theorem sum_coe {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The sum of the exponentials of a row of logits less a real number. -/
theorem sum_exp_sub {ι : Type*} [Fintype ι] (z : ι → EReal) (h : ∀ k, z k ≠ ⊤) (μ : ℝ) :
    (∑ k, Ideal.exp (z k - (μ : EReal))) = ((Real.exp (-μ) * ∑ k, weight (z k) : ℝ) : EReal) := by
  rw [Finset.sum_congr rfl fun k _ => exp_sub_coe (h k) μ, sum_coe, Finset.mul_sum]

/-- A maximum of logits is not +∞. -/
theorem fold_max_ne_top {ι : Type*} (s : Finset ι) (z : ι → EReal) (h : ∀ k, z k ≠ ⊤) : s.fold max ⊥ z ≠ ⊤ := by
  classical
  induction s using Finset.induction_on with
  | empty => simp
  | insert a s ha ih =>
    rw [Finset.fold_insert ha]
    rcases max_choice (z a) (s.fold max ⊥ z) with e | e <;> rw [e]
    · exact h a
    · exact ih

/-- A maximum is at least each member. -/
theorem le_fold_max {ι : Type*} (s : Finset ι) (z : ι → EReal) {k : ι} (hk : k ∈ s) : z k ≤ s.fold max ⊥ z := by
  rw [Finset.le_fold_max]; exact Or.inr ⟨k, hk, le_rfl⟩

/-- A maximum of logits, one of them real, is real. -/
theorem fold_max_real {ι : Type*} [Fintype ι] (z : ι → EReal) (h : ∀ k, z k ≠ ⊤) (hr : ∃ k, z k ≠ ⊥) :
    ∃ μ : ℝ, (Finset.univ : Finset ι).fold max ⊥ z = (μ : EReal) := by
  obtain ⟨k, hk⟩ := hr
  have h1 := fold_max_ne_top Finset.univ z h
  have h2 : (Finset.univ : Finset ι).fold max ⊥ z ≠ ⊥ := fun e => hk (le_bot_iff.mp (e ▸ le_fold_max Finset.univ z (Finset.mem_univ k)))
  exact ⟨_, (EReal.coe_toReal h1 h2).symm⟩

/-- The running pair stands for the weight `S` gathered so far: any real `m`, and `S` scaled by `exp (−m)`. -/
def Stands (m l : EReal) (S : ℝ) : Prop := ∃ μ : ℝ, m = (μ : EReal) ∧ l = ((Real.exp (-μ) * S : ℝ) : EReal)

/-- The first block, from −∞ and 0. -/
theorem stands_first {ι : Type*} [Fintype ι] (z : ι → EReal) (h : ∀ k, z k ≠ ⊤) (hr : ∃ k, z k ≠ ⊥) :
    Stands (max ⊥ ((Finset.univ : Finset ι).fold max ⊥ z))
      (0 * Ideal.exp (⊥ - max ⊥ ((Finset.univ : Finset ι).fold max ⊥ z))
        + ∑ k, Ideal.exp (z k - max ⊥ ((Finset.univ : Finset ι).fold max ⊥ z)))
      (∑ k, weight (z k)) := by
  obtain ⟨μ, hμ⟩ := fold_max_real z h hr
  rw [hμ, max_eq_right bot_le]
  exact ⟨μ, rfl, by rw [zero_mul, zero_add, sum_exp_sub z h]⟩

/-- A later block. -/
theorem stands_next {ι : Type*} [Fintype ι] {m l : EReal} {S : ℝ} (hs : Stands m l S) (z : ι → EReal) (h : ∀ k, z k ≠ ⊤) :
    Stands (max m ((Finset.univ : Finset ι).fold max ⊥ z))
      (l * Ideal.exp (m - max m ((Finset.univ : Finset ι).fold max ⊥ z))
        + ∑ k, Ideal.exp (z k - max m ((Finset.univ : Finset ι).fold max ⊥ z)))
      (S + ∑ k, weight (z k)) := by
  obtain ⟨μ, rfl, rfl⟩ := hs
  have h1 : max (μ : EReal) ((Finset.univ : Finset ι).fold max ⊥ z) ≠ ⊤ := by
    rcases max_choice (μ : EReal) ((Finset.univ : Finset ι).fold max ⊥ z) with e | e <;> rw [e]
    · exact EReal.coe_ne_top μ
    · exact fold_max_ne_top _ z h
  have h2 : max (μ : EReal) ((Finset.univ : Finset ι).fold max ⊥ z) ≠ ⊥ := fun e =>
    EReal.coe_ne_bot μ (le_bot_iff.mp (e ▸ le_max_left _ _))
  obtain ⟨ν, hν⟩ : ∃ ν : ℝ, max (μ : EReal) ((Finset.univ : Finset ι).fold max ⊥ z) = (ν : EReal) := ⟨_, (EReal.coe_toReal h1 h2).symm⟩
  rw [hν]
  refine ⟨ν, rfl, ?_⟩
  rw [sum_exp_sub z h, ← EReal.coe_sub, Ideal.exp_coe, ← EReal.coe_mul, ← EReal.coe_add]
  congr 1
  have : Real.exp (-μ) * Real.exp (μ - ν) = Real.exp (-ν) := by rw [← Real.exp_add]; congr 1; ring
  calc Real.exp (-μ) * S * Real.exp (μ - ν) + Real.exp (-ν) * ∑ k, weight (z k)
      = (Real.exp (-μ) * Real.exp (μ - ν)) * S + Real.exp (-ν) * ∑ k, weight (z k) := by ring
    _ = _ := by rw [this]; ring

/-- The log-normaliser read off the running pair. -/
theorem stands_log {m l : EReal} {S : ℝ} (hs : Stands m l S) (hS : 0 < S) : m + Ideal.log l = ((Real.log S : ℝ) : EReal) := by
  obtain ⟨μ, rfl, rfl⟩ := hs
  have hp : 0 < Real.exp (-μ) * S := mul_pos (Real.exp_pos _) hS
  rw [Ideal.log_coe, if_neg (not_le.mpr hp), ← EReal.coe_add, Real.log_mul (Real.exp_pos _).ne' hS.ne', Real.log_exp]
  congr 1; ring

/-- The shifted logit less the logarithm of the shifted sum is the logit less the log-normaliser. -/
theorem shifted {z : EReal} (h : z ≠ ⊤) (μ : ℝ) {S : ℝ} (hS : 0 < S) :
    z - (μ : EReal) - Ideal.log ((Real.exp (-μ) * S : ℝ) : EReal) = z - ((Real.log S : ℝ) : EReal) := by
  have hp : 0 < Real.exp (-μ) * S := mul_pos (Real.exp_pos _) hS
  rw [Ideal.log_coe, if_neg (not_le.mpr hp), Real.log_mul (Real.exp_pos _).ne' hS.ne', Real.log_exp]
  induction z with
  | bot => rw [EReal.bot_sub, EReal.bot_sub, EReal.bot_sub]
  | top => exact absurd rfl h
  | coe x => rw [← EReal.coe_sub, ← EReal.coe_sub, ← EReal.coe_sub]; congr 1; ring

end Cert.Row
end
-- ==== Proof.Val.Hit.lean ====
/-
  Which columns a row masks by its targets. For each sequence and column the kernel folds, over the thirty-two targets,
  the least position at which the target is that column (32 where there is none); a row masks the column from that
  position on. `Hit n h` says that `h` is this fold over the first `n` targets.
-/
module

public import proofs.«01_k».proof.Proof.Gen.KernelIdeal.Skeleton
public import Idealize.ShloMosaic.Lib.ValueLayoutCasts
public import Idealize.ShloMosaic.Lib.WordCmp

@[expose] public section

set_option maxRecDepth 16384

noncomputable section

namespace Cert.Mask

open Cert.KernelIdeal Cert.KernelIdeal.Gen
open Idealize.ShloMosaic
open Idealize.ShloMosaic.ValueIdx Idealize.ShloMosaic.WordCmp

/-- The sequence of flattened row `r`. -/
abbrev seqOf (r : Fin 4096) : Fin 128 := ⟨r.val / 32, by have := r.isLt; omega⟩
/-- The position of flattened row `r` in its sequence. -/
abbrev posOf (r : Fin 4096) : Fin 32 := ⟨r.val % 32, by omega⟩

/-- The fold over the first `n` targets: at each sequence and column, the least position below `n` whose target is the
column, or 32. -/
def Hit (tgt : IVec S128x32 32) (cols : IVec S1x512 32) (n : ℕ) (h : IVec S128x512 32) : Prop :=
  ∀ (b : Fin 128) (q : Fin 512), ∃ k : ℕ, k ≤ 32 ∧ h (ix2 b q) = BitVec.ofNat 32 k
    ∧ ∀ s : ℕ, s < 32 → (k ≤ s ↔ ∃ j : Fin 32, j.val < n ∧ j.val ≤ s ∧ tgt (ix2 b j) = cols (ix2 0 q))

theorem hit_zero (tgt : IVec S128x32 32) (cols : IVec S1x512 32) : Hit tgt cols 0 (broadcast S128x512 32#32) := fun b q =>
  ⟨32, le_rfl, rfl, fun s hs => ⟨fun h => by omega, fun ⟨j, hj, _⟩ => absurd hj (Nat.not_lt_zero _)⟩⟩

/-- A column broadcast along the lanes. -/
theorem col_apply {α : Type} {a n : ℕ} (v : (⟨2, ![a, 1]⟩ : Shape).Idx → α) (h : (⟨2, ![a, 1]⟩ : Shape).Broadcasts ⟨2, ![a, n]⟩)
    (b : Fin a) (q : Fin n) : broadcastTo ⟨2, ![a, n]⟩ v h (ix2 b q) = v (ix2 b (0 : Fin 1)) := by
  refine broadcastTo_apply v h (ix2 b q) (ix2 b (0 : Fin 1)) fun ax => ?_
  match ax with
  | ⟨0, _⟩ =>
    show b.val = if a = 1 then 0 else b.val
    split
    · have := b.isLt; omega
    · rfl
  | ⟨1, _⟩ => rfl

theorem minsi_words (a b : ℕ) (ha : a ≤ 32) (hb : b ≤ 32) :
    IntOp.minsi (BitVec.ofNat 32 a) (BitVec.ofNat 32 b) = BitVec.ofNat 32 (min a b) := by
  have h : ∀ a b : Fin 33, IntOp.minsi (BitVec.ofNat 32 a.val) (BitVec.ofNat 32 b.val) = BitVec.ofNat 32 (min a.val b.val) := by
    decide +kernel
  exact h ⟨a, by omega⟩ ⟨b, by omega⟩

/-- One more target. -/
theorem hit_next {tgt : IVec S128x32 32} {cols : IVec S1x512 32} {n : ℕ} {h : IVec S128x512 32} (hn : n < 32)
    (hh : Hit tgt cols n h) (hs : S128x32.Slices ![0, n] S128x1) (hb : S128x1.Broadcasts S128x512) (hc : S1x512.Broadcasts S128x512) :
    Hit tgt cols (n + 1) (minsi h (select (cmpi .eq (broadcastTo S128x512 (extractStridedSlice S128x1 ![0, n] tgt hs) hb)
      (broadcastTo S128x512 cols hc)) (broadcast S128x512 (BitVec.ofNat 32 n)) (broadcast S128x512 32#32))) := fun b q => by
  obtain ⟨k, hk, e, hiff⟩ := hh b q
  have e1 : broadcastTo S128x512 (extractStridedSlice S128x1 ![0, n] tgt hs) hb (ix2 b q) = tgt (ix2 b ⟨n, hn⟩) :=
    (col_apply _ hb b q).trans (slice2_axis1_apply n tgt hs b 0 ⟨n, hn⟩ rfl)
  have e2 : broadcastTo S128x512 cols hc (ix2 b q) = cols (ix2 0 q) := broadcastTo_1b_ab_apply cols hc b q
  have e3 : minsi h (select (cmpi .eq (broadcastTo S128x512 (extractStridedSlice S128x1 ![0, n] tgt hs) hb)
      (broadcastTo S128x512 cols hc)) (broadcast S128x512 (BitVec.ofNat 32 n)) (broadcast S128x512 32#32)) (ix2 b q)
      = IntOp.minsi (BitVec.ofNat 32 k) (if tgt (ix2 b ⟨n, hn⟩) = cols (ix2 0 q) then BitVec.ofNat 32 n else BitVec.ofNat 32 32) := by
    show IntOp.minsi (h (ix2 b q)) (Scalar.select (IntOp.cmpi .eq _ _) _ _) = _
    rw [e, e1, e2, cmpi_eq_eq, select_decide]; rfl
  rw [e3]
  by_cases ht : tgt (ix2 b ⟨n, hn⟩) = cols (ix2 0 q)
  · rw [if_pos ht, minsi_words _ _ hk (by omega)]
    refine ⟨min k n, by omega, rfl, fun s hs => ?_⟩
    constructor
    · intro hm
      by_cases hks : k ≤ s
      · obtain ⟨j, h1, h2, h3⟩ := (hiff s hs).mp hks
        exact ⟨j, by omega, h2, h3⟩
      · exact ⟨⟨n, hn⟩, Nat.lt_succ_self n, by show n ≤ s; omega, ht⟩
    · rintro ⟨j, h1, h2, h3⟩
      by_cases hj : j.val < n
      · exact le_trans (min_le_left _ _) ((hiff s hs).mpr ⟨j, hj, h2, h3⟩)
      · omega
  · rw [if_neg ht, minsi_words _ _ hk le_rfl]
    refine ⟨min k 32, by omega, rfl, fun s hs => ?_⟩
    rw [Nat.min_eq_left hk, hiff s hs]
    constructor
    · rintro ⟨j, h1, h2, h3⟩; exact ⟨j, by omega, h2, h3⟩
    · rintro ⟨j, h1, h2, h3⟩
      refine ⟨j, ?_, h2, h3⟩
      rcases Nat.lt_succ_iff_lt_or_eq.mp h1 with h | h
      · exact h
      · exact absurd ((congrArg (fun z => tgt (ix2 b z)) (Fin.ext h : j = ⟨n, hn⟩)).symm.trans h3) ht

/-- The mask of a row by its targets: 1 where one of the targets up to its own position is the column. -/
theorem mask_of_hit {tgt : IVec S128x32 32} {cols : IVec S1x512 32} {h : IVec S128x512 32} (hh : Hit tgt cols 32 h)
    (hi : S128x32x512.Iotas .tc 32 [1]) (h1 : S128x512.ShapeCasts S128x1x512) (h2 : S128x1x512.Broadcasts S128x32x512)
    (h3 : S128x32x512.ShapeCasts S4096x512) (r : Fin 4096) (q : Fin 512) :
    shapeCast S4096x512 (cmpi .sge (iota .tc S128x32x512 32 [1] hi) (broadcastTo S128x32x512 (shapeCast S128x1x512 h h1) h2)) h3 (ix2 r q)
        = 1#1
      ↔ ∃ j : Fin 32, j.val ≤ (posOf r).val ∧ tgt (ix2 (seqOf r) j) = cols (ix2 0 q) := by
  obtain ⟨k, hk, e, hiff⟩ := hh (seqOf r) q
  have e1 : broadcastTo S128x32x512 (shapeCast S128x1x512 h h1) h2 (ix3 (seqOf r) (posOf r) q) = h (ix2 (seqOf r) q) := by
    rw [broadcastTo_apply _ h2 (ix3 (seqOf r) (posOf r) q) (ix3 (seqOf r) (0 : Fin 1) q) (fun ax => by
      match ax with
      | ⟨0, _⟩ => rfl
      | ⟨1, _⟩ => rfl
      | ⟨2, _⟩ => rfl)]
    refine shapeCast_apply h h1 _ _ ?_
    rw [Shape.rowMajor_val_two, Shape.rowMajor_val_three]
    show (seqOf r).val * 512 + q.val = ((seqOf r).val * 1 + 0) * 512 + q.val
    omega
  have e2 : iota .tc S128x32x512 32 [1] hi (ix3 (seqOf r) (posOf r) q) = BitVec.ofNat 32 (posOf r).val := by
    rw [iota_at]
    show BitVec.ofNat 32 (0 * 32 + (posOf r).val) = _
    rw [Nat.zero_mul, Nat.zero_add]
  rw [shapeCast_apply _ h3 (ix2 r q) (ix3 (seqOf r) (posOf r) q) (by
    rw [Shape.rowMajor_val_two, Shape.rowMajor_val_three]
    show (r.val / 32 * 32 + r.val % 32) * 512 + q.val = r.val * 512 + q.val
    rw [Nat.div_add_mod'])]
  rw [cmpi_at, e1, e2, e, cmpi_sge_ofNat_eq_one_iff (by have := (posOf r).isLt; omega) (by omega), hiff _ (posOf r).isLt]
  constructor
  · rintro ⟨j, _, h⟩; exact ⟨j, h⟩
  · rintro ⟨j, h⟩; exact ⟨j, j.isLt, h⟩

end Cert.Mask
end
-- ==== Proof.Val.Masks.lean ====
/-
  The masks of the two calls' bodies at a grid point, entry by entry: the fold of each body is the fold over all
  thirty-two targets, so a row's mask by its targets is 1 where one of the targets up to its own position is the column;
  and the mask by the column's number is 1 on the two reserved columns and past the last column.
-/
module

public import proofs.«01_k».proof.Proof.Val.Hit
public import proofs.«01_k».proof.Proof.KI.Body0
public import proofs.«01_k».proof.Proof.KI.Body1

@[expose] public section

set_option maxRecDepth 16384

noncomputable section

namespace Cert.Mask

open Cert.KernelIdeal Cert.KernelIdeal.Gen
open Cert.KIRun
open Idealize.ShloMosaic
open Idealize.ShloMosaic.ValueIdx Idealize.ShloMosaic.WordCmp

variable {F : FTy → Type} [FloatOps F]

/-- A row masks a column by its targets: one of the targets up to the row's position is the column. -/
def ByTargets (tgt : IVec S128x32 32) (r : Fin 4096) (w : BitVec 32) : Prop :=
  ∃ j : Fin 32, j.val ≤ (posOf r).val ∧ tgt (ix2 (seqOf r) j) = w

section First

variable (i : grid0.Coords) (tgt : Vec F S128x32 .i32)

/-- The point's column `q` as a word. -/
theorem cols0 (q : Fin 512) : k0_pay10 i (ix2 0 q) = BitVec.ofNat 32 ((i 0).val * 512 + q.val) := by
  unfold k0_pay10
  show IntOp.addi (IntOp.muli (BitVec.ofNat 32 (i 0).val) 512#32) (BitVec.ofNat 32 (0 * 512 + q.val)) = _
  rw [Nat.zero_mul, Nat.zero_add]
  exact (congrArg (IntOp.addi · _) (muli_ofNat _ _)).trans (addi_ofNat _ _)

theorem hit0a_hit : Hit (tgt : IVec S128x32 32) (k0_pay10 i) 8 (hit0a i tgt) := by
  unfold hit0a k0_pay14 k0_pay11 k0_pay12 k0_pay13
  exact (hit_next (n := 7) (by decide) (hit_next (n := 6) (by decide) (hit_next (n := 5) (by decide) (hit_next (n := 4) (by decide) (hit_next (n := 3) (by decide) (hit_next (n := 2) (by decide) (hit_next (n := 1) (by decide) (hit_next (n := 0) (by decide) (hit_zero _ _) _ _ _) _ _ _) _ _ _) _ _ _) _ _ _) _ _ _) _ _ _) _ _ _)

theorem hit0b_hit : Hit (tgt : IVec S128x32 32) (k0_pay10 i) 14 (hit0b i tgt) := by
  unfold hit0b k0_pay17 k0_pay15 k0_pay16
  exact (hit_next (n := 13) (by decide) (hit_next (n := 12) (by decide) (hit_next (n := 11) (by decide) (hit_next (n := 10) (by decide) (hit_next (n := 9) (by decide) (hit_next (n := 8) (by decide) (hit0a_hit i tgt) _ _ _) _ _ _) _ _ _) _ _ _) _ _ _) _ _ _)

theorem hit0c_hit : Hit (tgt : IVec S128x32 32) (k0_pay10 i) 20 (hit0c i tgt) := by
  unfold hit0c k0_pay20 k0_pay18 k0_pay19
  exact (hit_next (n := 19) (by decide) (hit_next (n := 18) (by decide) (hit_next (n := 17) (by decide) (hit_next (n := 16) (by decide) (hit_next (n := 15) (by decide) (hit_next (n := 14) (by decide) (hit0b_hit i tgt) _ _ _) _ _ _) _ _ _) _ _ _) _ _ _) _ _ _)

theorem hit0d_hit : Hit (tgt : IVec S128x32 32) (k0_pay10 i) 26 (hit0d i tgt) := by
  unfold hit0d k0_pay23 k0_pay21 k0_pay22
  exact (hit_next (n := 25) (by decide) (hit_next (n := 24) (by decide) (hit_next (n := 23) (by decide) (hit_next (n := 22) (by decide) (hit_next (n := 21) (by decide) (hit_next (n := 20) (by decide) (hit0c_hit i tgt) _ _ _) _ _ _) _ _ _) _ _ _) _ _ _) _ _ _)

/-- The first call's mask by the targets. -/
theorem mask0_iff (r : Fin 4096) (q : Fin 512) :
    mask0 i tgt (ix2 r q) = 1#1 ↔ ByTargets tgt r (BitVec.ofNat 32 ((i 0).val * 512 + q.val)) := by
  rw [← cols0 i q]
  unfold mask0 k0_pay26 k0_pay24 k0_pay25
  exact mask_of_hit (hit_next (n := 31) (by decide) (hit_next (n := 30) (by decide) (hit_next (n := 29) (by decide) (hit_next (n := 28) (by decide) (hit_next (n := 27) (by decide) (hit_next (n := 26) (by decide) (hit0d_hit i tgt) _ _ _) _ _ _) _ _ _) _ _ _) _ _ _) _ _ _) _ _ _ _ r q

end First

section Second

variable (i : grid1.Coords) (tgt : Vec F S128x32 .i32)

/-- The point's column `q` as a word. -/
theorem cols1 (q : Fin 512) : k1_pay3 i (ix2 0 q) = BitVec.ofNat 32 ((i 0).val * 512 + q.val) := by
  unfold k1_pay3
  show IntOp.addi (IntOp.muli (BitVec.ofNat 32 (i 0).val) 512#32) (BitVec.ofNat 32 (0 * 512 + q.val)) = _
  rw [Nat.zero_mul, Nat.zero_add]
  exact (congrArg (IntOp.addi · _) (muli_ofNat _ _)).trans (addi_ofNat _ _)

theorem hit1a_hit : Hit (tgt : IVec S128x32 32) (k1_pay3 i) 9 (hit1a i tgt) := by
  unfold hit1a k1_pay7 k1_pay4 k1_pay5 k1_pay6
  exact (hit_next (n := 8) (by decide) (hit_next (n := 7) (by decide) (hit_next (n := 6) (by decide) (hit_next (n := 5) (by decide) (hit_next (n := 4) (by decide) (hit_next (n := 3) (by decide) (hit_next (n := 2) (by decide) (hit_next (n := 1) (by decide) (hit_next (n := 0) (by decide) (hit_zero _ _) _ _ _) _ _ _) _ _ _) _ _ _) _ _ _) _ _ _) _ _ _) _ _ _) _ _ _)

theorem hit1b_hit : Hit (tgt : IVec S128x32 32) (k1_pay3 i) 15 (hit1b i tgt) := by
  unfold hit1b k1_pay10 k1_pay8 k1_pay9
  exact (hit_next (n := 14) (by decide) (hit_next (n := 13) (by decide) (hit_next (n := 12) (by decide) (hit_next (n := 11) (by decide) (hit_next (n := 10) (by decide) (hit_next (n := 9) (by decide) (hit1a_hit i tgt) _ _ _) _ _ _) _ _ _) _ _ _) _ _ _) _ _ _)

theorem hit1c_hit : Hit (tgt : IVec S128x32 32) (k1_pay3 i) 21 (hit1c i tgt) := by
  unfold hit1c k1_pay13 k1_pay11 k1_pay12
  exact (hit_next (n := 20) (by decide) (hit_next (n := 19) (by decide) (hit_next (n := 18) (by decide) (hit_next (n := 17) (by decide) (hit_next (n := 16) (by decide) (hit_next (n := 15) (by decide) (hit1b_hit i tgt) _ _ _) _ _ _) _ _ _) _ _ _) _ _ _) _ _ _)

theorem hit1d_hit : Hit (tgt : IVec S128x32 32) (k1_pay3 i) 27 (hit1d i tgt) := by
  unfold hit1d k1_pay16 k1_pay14 k1_pay15
  exact (hit_next (n := 26) (by decide) (hit_next (n := 25) (by decide) (hit_next (n := 24) (by decide) (hit_next (n := 23) (by decide) (hit_next (n := 22) (by decide) (hit_next (n := 21) (by decide) (hit1c_hit i tgt) _ _ _) _ _ _) _ _ _) _ _ _) _ _ _) _ _ _)

/-- The second call's mask by the targets. -/
theorem mask1_iff (r : Fin 4096) (q : Fin 512) :
    mask1 i tgt (ix2 r q) = 1#1 ↔ ByTargets tgt r (BitVec.ofNat 32 ((i 0).val * 512 + q.val)) := by
  rw [← cols1 i q]
  unfold mask1 k1_pay19 k1_pay17 k1_pay18
  exact mask_of_hit (hit_next (n := 31) (by decide) (hit_next (n := 30) (by decide) (hit_next (n := 29) (by decide) (hit_next (n := 28) (by decide) (hit_next (n := 27) (by decide) (hit1d_hit i tgt) _ _ _) _ _ _) _ _ _) _ _ _) _ _ _) _ _ _ _ r q

end Second

/-- The masks by the column's number, at a column below 2³¹. -/
theorem byNumber (n : ℕ) (hn : n < 2 ^ 31) :
    IntOp.ori (IntOp.cmpi .slt (BitVec.ofNat 32 n) 2#32) (IntOp.cmpi .sge (BitVec.ofNat 32 n) 100000#32) = 1#1 ↔ n < 2 ∨ 100000 ≤ n := by
  rw [cmpi_slt_ofNat (by omega) (by decide), cmpi_sge_ofNat (by omega) (by decide), ori_ofBool, ofBool_eq_one_iff]
  simp

end Cert.Mask
end
-- ==== Proof.Val.Spec.lean ====
/-
  What both programs compute, row by row. A row's logit at a column is −∞ on the two reserved columns, on the targets up
  to the row's own position and past the last column; elsewhere it is the activations against the column's weights plus
  the column's bias. The result is the logit less the logarithm of the row's total weight.
-/
module

public import proofs.«01_k».proof.Proof.Val.Softmax
public import proofs.«01_k».proof.Proof.Val.Masks

@[expose] public section

noncomputable section

namespace Cert.Spec

open Cert.KernelIdeal Cert.KernelIdeal.Gen
open Cert.Mask Cert.Row
open Idealize.ShloMosaic
open Idealize.ShloMosaic.ValueIdx
open scoped BigOperators

variable (x : FVec Ideal S128x32x64 .f32) (tgt : IVec S128x32 32) (W : FVec Ideal S100000x64 .f32) (b : FVec Ideal S100000 .f32)

/-- The logit of row `r` at column `c`, before the masks. -/
def logit (r : Fin 4096) (c : Fin 100000) : EReal :=
  (∑ d : Fin 64, (x (ix3 (seqOf r) (posOf r) d) : EReal) * (W (ix2 c d) : EReal)) + (b (ix1 c) : EReal)

/-- Row `r` masks column number `c`. -/
def Masked (r : Fin 4096) (c : ℕ) : Prop := c < 2 ∨ ByTargets tgt r (BitVec.ofNat 32 c)

open Classical in
/-- The masked logit of row `r` at column number `c`. -/
def z (r : Fin 4096) (c : ℕ) : EReal :=
  if h : c < 100000 then if Masked tgt r c then ⊥ else logit x W b r ⟨c, h⟩ else ⊥

/-- The total weight of row `r` over its first `n` columns. -/
def total (r : Fin 4096) (n : ℕ) : ℝ := ∑ c ∈ Finset.range n, weight (z x tgt W b r c)

/-- The result at row `r` and column `c`. -/
def value (r : Fin 4096) (c : Fin 100000) : EReal := z x tgt W b r c.val - ((Real.log (total x tgt W b r 100000) : ℝ) : EReal)

/-- The arguments are real numbers. -/
structure Real3 : Prop where
  x : ∀ i, ∃ v : ℝ, x i = (v : EReal)
  W : ∀ i, ∃ v : ℝ, W i = (v : EReal)
  b : ∀ i, ∃ v : ℝ, b i = (v : EReal)

variable {x tgt W b}

theorem z_out (r : Fin 4096) {c : ℕ} (h : ¬ c < 100000) : z x tgt W b r c = ⊥ := dif_neg h
theorem z_masked (r : Fin 4096) {c : ℕ} (h : Masked tgt r c) : z x tgt W b r c = ⊥ := by
  unfold z
  by_cases hc : c < 100000
  · rw [dif_pos hc, if_pos h]
  · rw [dif_neg hc]
theorem z_open (r : Fin 4096) {c : ℕ} (hc : c < 100000) (h : ¬ Masked tgt r c) : z x tgt W b r c = logit x W b r ⟨c, hc⟩ := by
  unfold z; rw [dif_pos hc, if_neg h]

/-- A logit of real arguments is real. -/
theorem logit_real (hr : Real3 x W b) (r : Fin 4096) (c : Fin 100000) : ∃ v : ℝ, logit x W b r c = (v : EReal) := by
  choose fx hx using hr.x
  choose fW hW using hr.W
  choose fb hb using hr.b
  unfold logit
  refine ⟨(∑ d : Fin 64, fx (ix3 (seqOf r) (posOf r) d) * fW (ix2 c d)) + fb (ix1 c), ?_⟩
  rw [EReal.coe_add, ← sum_coe, hb]
  congr 1
  refine Finset.sum_congr rfl fun d _ => ?_
  rw [hx, hW, EReal.coe_mul]

theorem z_ne_top (hr : Real3 x W b) (r : Fin 4096) (c : ℕ) : z x tgt W b r c ≠ ⊤ := by
  by_cases hc : c < 100000
  · by_cases hm : Masked tgt r c
    · rw [z_masked r hm]; exact bot_ne_top
    · obtain ⟨v, hv⟩ := logit_real hr r ⟨c, hc⟩
      rw [z_open r hc hm, hv]; exact EReal.coe_ne_top v
  · rw [z_out r hc]; exact bot_ne_top

/-- Of the first 512 columns at most thirty-four are masked, so one is not. -/
theorem exists_open (tgt : IVec S128x32 32) (r : Fin 4096) : ∃ q : Fin 512, ¬ Masked tgt r q.val := by
  have hcard : (Finset.univ.image fun j : Fin 32 => (tgt (ix2 (seqOf r) j)).toNat).card < (Finset.Ico 2 512).card :=
    lt_of_le_of_lt Finset.card_image_le (by simp)
  obtain ⟨c, hc, hn⟩ := Finset.exists_mem_notMem_of_card_lt_card hcard
  rw [Finset.mem_Ico] at hc
  refine ⟨⟨c, hc.2⟩, fun hm => ?_⟩
  rcases hm with hm | ⟨j, _, hj⟩
  · exact absurd hm (not_lt.mpr hc.1)
  · refine hn (Finset.mem_image.mpr ⟨j, Finset.mem_univ j, ?_⟩)
    rw [hj, BitVec.toNat_ofNat]
    exact Nat.mod_eq_of_lt (by have := hc.2; show c < 2 ^ 32; omega)

theorem exists_real (hr : Real3 x W b) (r : Fin 4096) : ∃ q : Fin 512, z x tgt W b r q.val ≠ ⊥ := by
  obtain ⟨q, hq⟩ := exists_open tgt r
  refine ⟨q, ?_⟩
  obtain ⟨v, hv⟩ := logit_real hr r ⟨q.val, by have := q.isLt; omega⟩
  rw [z_open r (by have := q.isLt; omega) hq, hv]; exact EReal.coe_ne_bot v

theorem total_block (r : Fin 4096) (n : ℕ) :
    total x tgt W b r ((n + 1) * 512) = total x tgt W b r (n * 512) + ∑ q : Fin 512, weight (z x tgt W b r (n * 512 + q.val)) := by
  unfold total
  rw [show (n + 1) * 512 = n * 512 + 512 by ring, Finset.sum_range_add, Finset.sum_range (fun q => weight (z x tgt W b r (n * 512 + q)))]

/-- The columns past the last carry no weight. -/
theorem total_past (r : Fin 4096) : total x tgt W b r (196 * 512) = total x tgt W b r 100000 := by
  unfold total
  rw [show 196 * 512 = 100000 + 352 by norm_num, Finset.sum_range_add]
  rw [Finset.sum_eq_zero (s := Finset.range 352) (fun c _ => by rw [z_out r (by omega), weight_bot]), add_zero]

theorem total_pos (hr : Real3 x W b) (r : Fin 4096) : 0 < total x tgt W b r 100000 := by
  obtain ⟨q, hq⟩ := exists_real (tgt := tgt) hr r
  exact Finset.sum_pos' (fun _ _ => weight_nonneg _) ⟨q.val, Finset.mem_range.mpr (by have := q.isLt; omega), weight_pos hq⟩

theorem total_fin (r : Fin 4096) : total x tgt W b r 100000 = ∑ c : Fin 100000, weight (z x tgt W b r c.val) :=
  Finset.sum_range fun c => weight (z x tgt W b r c)

end Cert.Spec
end
-- ==== Proof.Val.Step.lean ====
/-
  The values the two bodies compute at a grid point, row by row, given what the staged operands hold: the masked logits
  of the point's block, the running maximum and sum after it, the log-normaliser, and the stored block of the result.
-/
module

public import proofs.«01_k».proof.Proof.Val.Spec
public import Idealize.ShloMosaic.Lib.MatmulPlain
public import Idealize.ShloMosaic.Lib.ValueIdx

@[expose] public section

set_option maxRecDepth 16384

noncomputable section

namespace Cert.Step

open Cert.KernelIdeal Cert.KernelIdeal.Gen
open Cert.KIRun Cert.Mask Cert.Row Cert.Spec
open Idealize.ShloMosaic
open Idealize.ShloMosaic.ValueIdx Idealize.ShloMosaic.WordCmp
open scoped BigOperators

theorem neg_inf : Ideal.ofBits .f32 0xFF800000#32 = ⊥ := by simp [Ideal.ofBits, Ideal.ieee]

/-- The block's logits: a row of activations against a column's weights, plus the column's bias. -/
theorem logits0 (X : FVec Ideal S4096x64 .bf16) (Wb : FVec Ideal S512x64 .bf16) (bb : FVec Ideal S1x512 .f32) (r : Fin 4096) (q : Fin 512) :
    k0_pay9 (F := Ideal) X Wb bb (ix2 r q) = (∑ d : Fin 64, (X (ix2 r d) : EReal) * (Wb (ix2 q d) : EReal)) + (bb (ix2 0 q) : EReal) := by
  unfold k0_pay9
  rw [addf_apply, broadcastTo_1b_ab_apply, shapeCast_self, shapeCast_self, shapeCast_self]
  refine congrArg (· + _) ?_
  refine (Ideal.matmul_transposedRhs_apply none X Wb _ r q).trans ?_
  rw [constant_apply, Ideal.ofBits_zero_f32, zero_add]

theorem logits1 (X : FVec Ideal S4096x64 .bf16) (Wb : FVec Ideal S512x64 .bf16) (bb : FVec Ideal S1x512 .f32) :
    k1_pay2 (F := Ideal) X Wb bb = k0_pay9 X Wb bb := rfl

variable {x : FVec Ideal S128x32x64 .f32} {tgt : IVec S128x32 32} {W : FVec Ideal S100000x64 .f32} {b : FVec Ideal S100000 .f32}

/-- The staged operands of block `n` hold the arguments: the activations flattened, and, of the weights and the bias,
the block's columns as far as there are columns. -/
structure Staged (x : FVec Ideal S128x32x64 .f32) (W : FVec Ideal S100000x64 .f32) (b : FVec Ideal S100000 .f32) (n : ℕ)
    (X : FVec Ideal S4096x64 .bf16) (Wb : FVec Ideal S512x64 .bf16) (bb : FVec Ideal S1x512 .f32) : Prop where
  x : ∀ r d, (X (ix2 r d) : EReal) = x (ix3 (seqOf r) (posOf r) d)
  W : ∀ (q : Fin 512) (d : Fin 64) (h : n * 512 + q.val < 100000), (Wb (ix2 q d) : EReal) = W (ix2 ⟨n * 512 + q.val, h⟩ d)
  b : ∀ (q : Fin 512) (h : n * 512 + q.val < 100000), (bb (ix2 0 q) : EReal) = b (ix1 ⟨n * 512 + q.val, h⟩)

theorem Staged.logit {n : ℕ} {X : FVec Ideal S4096x64 .bf16} {Wb : FVec Ideal S512x64 .bf16} {bb : FVec Ideal S1x512 .f32}
    (hs : Staged x W b n X Wb bb) (r : Fin 4096) (q : Fin 512) (h : n * 512 + q.val < 100000) :
    k0_pay9 (F := Ideal) X Wb bb (ix2 r q) = logit x W b r ⟨n * 512 + q.val, h⟩ := by
  rw [logits0]; unfold Spec.logit
  rw [hs.b q h]
  refine congrArg (· + _) (Finset.sum_congr rfl fun d _ => ?_)
  rw [hs.x, hs.W q d h]

theorem or_one (u v : BitVec 1) : IntOp.ori u v = 1#1 ↔ u = 1#1 ∨ v = 1#1 := by
  revert u v; decide

/-- The mask word of an entry. -/
theorem mask_word (n : ℕ) (hn : n < 196) (q : Fin 512) (r : Fin 4096) (u v : BitVec 1)
    (hu : u = 1#1 ↔ ByTargets tgt r (BitVec.ofNat 32 (n * 512 + q.val)))
    (hv : v = IntOp.ori (IntOp.cmpi .slt (BitVec.ofNat 32 (n * 512 + q.val)) 2#32) (IntOp.cmpi .sge (BitVec.ofNat 32 (n * 512 + q.val)) 100000#32)) :
    IntOp.ori u v = 1#1 ↔ (Masked tgt r (n * 512 + q.val) ∨ 100000 ≤ n * 512 + q.val) := by
  have hq := q.isLt
  rw [or_one, hu, hv, byNumber _ (by omega)]
  unfold Masked
  tauto

/-- The masked logits of the first call's block. -/
theorem masked0 (i : grid0.Coords) {X : FVec Ideal S4096x64 .bf16} {Wb : FVec Ideal S512x64 .bf16} {bb : FVec Ideal S1x512 .f32}
    (hs : Staged x W b (i 0).val X Wb bb) (r : Fin 4096) (q : Fin 512) :
    k0_pay1 (F := Ideal) (k0_pay9 X Wb bb) (k0_pay10 i) (mask0 (F := Ideal) i tgt) k0_pay27 (ix2 r q) = z x tgt W b r ((i 0).val * 512 + q.val) := by
  have hw := mask_word (tgt := tgt) (i 0).val (i 0).isLt q r (mask0 (F := Ideal) i tgt (ix2 r q)) _ (mask0_iff (F := Ideal) i tgt r q) rfl
  unfold k0_pay1
  dsimp only
  rw [select_at, ori_at, broadcastTo_1b_ab_apply]
  rw [show (ori (cmpi .slt (k0_pay10 i) k0_pay27) (cmpi .sge (k0_pay10 i) (broadcast S1x512 100000#32)) : IVec S1x512 1) (ix2 0 q)
    = IntOp.ori (IntOp.cmpi .slt (BitVec.ofNat 32 ((i 0).val * 512 + q.val)) 2#32) (IntOp.cmpi .sge (BitVec.ofNat 32 ((i 0).val * 512 + q.val)) 100000#32) from by
      rw [← cols0 i q]; rfl]
  rw [broadcast_at]
  unfold Scalar.select
  by_cases h : Masked tgt r ((i 0).val * 512 + q.val) ∨ 100000 ≤ (i 0).val * 512 + q.val
  · refine (if_pos (hw.mpr h)).trans ?_
    refine (show _ = (⊥ : EReal) from neg_inf).trans ?_
    rcases h with h | h
    · rw [z_masked r h]
    · rw [z_out r (by omega)]
  · refine (if_neg fun e => h (hw.mp e)).trans ?_
    rw [not_or, not_le] at h
    rw [hs.logit r q h.2, z_open r h.2 h.1]

/-- The stored block of the second call. -/
theorem stored1 (i : grid1.Coords) {X : FVec Ideal S4096x64 .bf16} {Wb : FVec Ideal S512x64 .bf16} {bb : FVec Ideal S1x512 .f32}
    (D : FVec Ideal S4096x1 .f32) (hs : Staged x W b (i 0).val X Wb bb) (r : Fin 4096) (q : Fin 512) :
    out1 (F := Ideal) i tgt X Wb bb D (ix2 r q) = z x tgt W b r ((i 0).val * 512 + q.val) - (D (ix2 r 0) : EReal) := by
  have hw := mask_word (tgt := tgt) (i 0).val (i 0).isLt q r (mask1 (F := Ideal) i tgt (ix2 r q)) _ (mask1_iff (F := Ideal) i tgt r q) rfl
  unfold out1 k1_pay1 k1_pay20
  dsimp only
  rw [select_at, ori_at, broadcastTo_1b_ab_apply]
  rw [show (ori (cmpi .slt (k1_pay3 i) (broadcast S1x512 2#32)) (cmpi .sge (k1_pay3 i) (broadcast S1x512 100000#32)) : IVec S1x512 1) (ix2 0 q)
    = IntOp.ori (IntOp.cmpi .slt (BitVec.ofNat 32 ((i 0).val * 512 + q.val)) 2#32) (IntOp.cmpi .sge (BitVec.ofNat 32 ((i 0).val * 512 + q.val)) 100000#32) from by
      rw [← cols1 i q]; rfl]
  rw [broadcast_at, subf_apply, col_apply, shapeCast_self, logits1]
  unfold Scalar.select
  by_cases h : Masked tgt r ((i 0).val * 512 + q.val) ∨ 100000 ≤ (i 0).val * 512 + q.val
  · refine (if_pos (hw.mpr h)).trans ?_
    refine (show _ = (⊥ : EReal) from neg_inf).trans ?_
    rcases h with h | h
    · rw [z_masked r h, EReal.bot_sub]
    · rw [z_out r (by omega), EReal.bot_sub]
  · refine (if_neg fun e => h (hw.mp e)).trans ?_
    rw [not_or, not_le] at h
    rw [hs.logit r q h.2, z_open r h.2 h.1]

theorem lift_row (r : Fin 4096) (q : Fin 512) : reduces_S4096x512_S4096.lift (ix1 r) q = ix2 r q := by
  funext a; fin_cases a <;> rfl

variable (i : grid0.Coords) {X : FVec Ideal S4096x64 .bf16} {Wb : FVec Ideal S512x64 .bf16} {bb : FVec Ideal S1x512 .f32}

theorem pay2_row (hs : Staged x W b (i 0).val X Wb bb) (m : FVec Ideal S4096x1 .f32) (r : Fin 4096) :
    k0_pay2 (F := Ideal) (k0_pay9 X Wb bb) (k0_pay10 i) (mask0 (F := Ideal) i tgt) k0_pay27 m (ix2 r 0)
      = max (m (ix2 r 0) : EReal) ((Finset.univ : Finset (Fin 512)).fold max ⊥ fun q => z x tgt W b r ((i 0).val * 512 + q.val)) := by
  unfold k0_pay2
  dsimp only
  rw [maximumf_apply, shapeCast_a_a1_apply]
  refine congrArg (max _) ?_
  refine (Ideal.multiReduction_maximumf_single _ _ reduces_S4096x512_S4096 _ _ (ix1 r)).trans ?_
  refine (congrArg (fun e => Finset.fold max e _ _) (show (FloatOps.ofBits (F := Ideal) .f32 0xFF800000#32 : EReal) = ⊥ from neg_inf)).trans ?_
  refine congrArg (fun f => Finset.fold max (⊥ : EReal) f (Finset.univ : Finset (Fin 512))) (funext fun (q : Fin 512) => ?_)
  exact (congrArg (k0_pay1 (F := Ideal) (k0_pay9 X Wb bb) (k0_pay10 i) (mask0 (F := Ideal) i tgt) k0_pay27) (lift_row r q)).trans (masked0 i hs r q)

theorem pay3_row (hs : Staged x W b (i 0).val X Wb bb) (m l : FVec Ideal S4096x1 .f32) (r : Fin 4096) (M : EReal)
    (hM : k0_pay2 (F := Ideal) (k0_pay9 X Wb bb) (k0_pay10 i) (mask0 (F := Ideal) i tgt) k0_pay27 m (ix2 r 0) = M) :
    k0_pay3 (F := Ideal) (k0_pay9 X Wb bb) (k0_pay10 i) (mask0 (F := Ideal) i tgt) k0_pay27 m l (ix2 r 0)
      = (l (ix2 r 0) : EReal) * Ideal.exp ((m (ix2 r 0) : EReal) - M)
        + ∑ q : Fin 512, Ideal.exp (z x tgt W b r ((i 0).val * 512 + q.val) - M) := by
  unfold k0_pay3
  dsimp only
  rw [addf_apply, mulf_apply, shapeCast_a_a1_apply]
  refine congrArg₂ (· + ·) ?_ ?_
  · refine congrArg (_ * ·) ?_
    show Ideal.exp ((m (ix2 r 0) : EReal) - k0_pay2 (F := Ideal) (k0_pay9 X Wb bb) (k0_pay10 i) (mask0 (F := Ideal) i tgt) k0_pay27 m (ix2 r 0)) = _
    rw [hM]
  · refine (Ideal.multiReduction_add_single _ _ reduces_S4096x512_S4096 _ _ (ix1 r)).trans ?_
    refine Finset.sum_congr rfl fun (q : Fin 512) _ => ?_
    refine (congrArg _ (lift_row r q)).trans ?_
    show Ideal.exp (k0_pay1 (F := Ideal) (k0_pay9 X Wb bb) (k0_pay10 i) (mask0 (F := Ideal) i tgt) k0_pay27 (ix2 r q)
      - broadcastTo S4096x512 (k0_pay2 (F := Ideal) (k0_pay9 X Wb bb) (k0_pay10 i) (mask0 (F := Ideal) i tgt) k0_pay27 m) broadcasts_S4096x1_S4096x512 (ix2 r q)) = _
    rw [col_apply, hM, masked0 i hs r q]

/-- The scratch buffers after a point, and what the last point stores, in terms of the row's block maximum. -/
theorem newM_row (hs : Staged x W b (i 0).val X Wb bb) (m : FVec Ideal S4096x1 .f32) (r : Fin 4096) :
    newM (F := Ideal) i tgt X Wb bb m (ix2 r 0)
      = max (m (ix2 r 0) : EReal) ((Finset.univ : Finset (Fin 512)).fold max ⊥ fun q => z x tgt W b r ((i 0).val * 512 + q.val)) := by
  unfold newM k0_pay4
  dsimp only
  rw [shapeCast_self]
  exact pay2_row i hs m r

theorem newL_row (hs : Staged x W b (i 0).val X Wb bb) (m l : FVec Ideal S4096x1 .f32) (r : Fin 4096) :
    newL (F := Ideal) i tgt X Wb bb m l (ix2 r 0)
      = (l (ix2 r 0) : EReal) * Ideal.exp ((m (ix2 r 0) : EReal) - newM (F := Ideal) i tgt X Wb bb m (ix2 r 0))
        + ∑ q : Fin 512, Ideal.exp (z x tgt W b r ((i 0).val * 512 + q.val) - newM (F := Ideal) i tgt X Wb bb m (ix2 r 0)) := by
  rw [newM_row i hs m r]
  unfold newL k0_pay5
  dsimp only
  rw [shapeCast_self]
  exact pay3_row i hs m l r _ (pay2_row i hs m r)

theorem newD_row (m l : FVec Ideal S4096x1 .f32) (r : Fin 4096) :
    newD (F := Ideal) i tgt X Wb bb m l (ix2 r 0)
      = (newM (F := Ideal) i tgt X Wb bb m (ix2 r 0) : EReal) + Ideal.log (newL (F := Ideal) i tgt X Wb bb m l (ix2 r 0)) := by
  unfold newM newL newD k0_pay4 k0_pay5 k0_pay6
  rw [shapeCast_self, shapeCast_self]
  rfl

theorem pay7_row (r : Fin 4096) : (k0_pay7 (F := Ideal) (ix2 r 0) : EReal) = ⊥ := by
  unfold k0_pay7
  rw [shapeCast_self]; exact neg_inf

theorem pay8_row (r : Fin 4096) : (k0_pay8 (F := Ideal) (ix2 r 0) : EReal) = 0 := by
  unfold k0_pay8
  rw [shapeCast_self]; exact Ideal.ofBits_zero_f32

end Cert.Step
end
-- ==== Proof.Val.Reads.lean ====
/-
  What the staging buffers hold at a grid point, in terms of the arrays the calls stage: the activations, the targets and
  the log-normalisers whole, and block `t` of the weights and of the bias as far as there are columns.
-/
module

public import proofs.«01_k».proof.Proof.Val.Step
public import proofs.«01_k».proof.Proof.KI.Data0
public import proofs.«01_k».proof.Proof.KI.Data1
public import Idealize.ShloMosaic.Lib.Pipeline.ValueKit

@[expose] public section

set_option maxRecDepth 16384

noncomputable section

namespace Cert.Reads

open Cert.KernelIdeal Cert.KernelIdeal.Gen
open Cert.KIRun Cert.Mask Cert.Spec Cert.Step
open Idealize.ShloMosaic hiding ix1 ix2 ix3
open Idealize.ShloMosaic.TcCoe
open Idealize.ShloMosaic.ValueIdx
open Idealize.ShloMosaic.Pipeline (Window)

/-- A filled block at an index of the moved part. -/
theorem fill_at {sig : RefSig} {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill; rw [dif_pos ((w.moved_iff i j).mpr h)]

theorem index0_1 : ∀ t : Fin cfg0.N, win0_1.index t = ![t.val, 0] := by decide +kernel
theorem index0_2 : ∀ t : Fin cfg0.N, win0_2.index t = ![0, t.val] := by decide +kernel
theorem xsize0_1 : ∀ t : Fin cfg0.N, ∀ a, win0_1.xsize (cfg0.grid.coords t) a = ![if t.val = 195 then 160 else 512, 64] a := by
  decide +kernel
theorem xsize0_2 : ∀ t : Fin cfg0.N, ∀ a, win0_2.xsize (cfg0.grid.coords t) a = ![1, if t.val = 195 then 160 else 512] a := by
  decide +kernel
theorem index1_1 : ∀ t : Fin cfg1.N, win1_1.index t = ![t.val, 0] := by decide +kernel
theorem index1_2 : ∀ t : Fin cfg1.N, win1_2.index t = ![0, t.val] := by decide +kernel
theorem xsize1_1 : ∀ t : Fin cfg1.N, ∀ a, win1_1.xsize (cfg1.grid.coords t) a = ![if t.val = 195 then 160 else 512, 64] a := by
  decide +kernel
theorem xsize1_2 : ∀ t : Fin cfg1.N, ∀ a, win1_2.xsize (cfg1.grid.coords t) a = ![1, if t.val = 195 then 160 else 512] a := by
  decide +kernel

variable {c : Dev nD} (V : Vals Ideal c)

theorem x0 (t : Fin cfg0.N) (i : S4096x64.Idx) : xAt0 V t i = V main_v1 i := by
  unfold xAt0 stg0
  rw [fill_at (cfg0.win 0) _ _ _ i (fun a => (i a).isLt)]
  blk_simp
  refine congrArg _ (funext fun a => ?_)
  apply Fin.ext
  blk_simp
  fin_cases a <;> simp [Window.index, win0_0, cc0_transform_0]

theorem t0 (t : Fin cfg0.N) (i : S128x32.Idx) : tAt0 V t i = V main_arg1 i := by
  unfold tAt0 stg0
  rw [fill_at (cfg0.win 3) _ _ _ i (fun a => (i a).isLt)]
  blk_simp
  refine congrArg _ (funext fun a => ?_)
  apply Fin.ext
  blk_simp
  fin_cases a <;> simp [Window.index, win0_3, cc0_transform_3]

theorem w0 (t : Fin cfg0.N) (d : FVec Ideal S512x64 .bf16) (q : Fin 512) (e : Fin 64) (h : t.val * 512 + q.val < 100000) :
    wAt0 V t d (ix2 q e) = V main_v2 (ix2 ⟨t.val * 512 + q.val, h⟩ e) := by
  unfold wAt0 stg0
  rw [fill_at (cfg0.win 1) _ _ _ (ix2 q e) (fun a => by
    refine lt_of_lt_of_eq ?_ (xsize0_1 t a).symm
    fin_cases a
    · show q.val < if t.val = 195 then 160 else 512
      split <;> omega
    · exact e.isLt)]
  blk_simp
  refine congrArg _ (funext fun a => ?_)
  apply Fin.ext
  blk_simp
  rw [index0_1]
  fin_cases a <;> simp [ix2]

theorem b0 (t : Fin cfg0.N) (d : FVec Ideal S1x512 .f32) (q : Fin 512) (h : t.val * 512 + q.val < 100000) :
    bAt0 V t d (ix2 0 q) = V main_v3 (ix2 0 ⟨t.val * 512 + q.val, h⟩) := by
  unfold bAt0 stg0
  rw [fill_at (cfg0.win 2) _ _ _ (ix2 0 q) (fun a => by
    refine lt_of_lt_of_eq ?_ (xsize0_2 t a).symm
    fin_cases a
    · exact Nat.one_pos
    · show q.val < if t.val = 195 then 160 else 512
      split <;> omega)]
  blk_simp
  refine congrArg _ (funext fun a => ?_)
  apply Fin.ext
  blk_simp
  rw [index0_2]
  fin_cases a <;> simp [ix2]

theorem x1 (t : Fin cfg1.N) (i : S4096x64.Idx) : xAt1 V t i = V main_v1 i := by
  unfold xAt1 stg1
  rw [fill_at (cfg1.win 0) _ _ _ i (fun a => (i a).isLt)]
  blk_simp
  refine congrArg _ (funext fun a => ?_)
  apply Fin.ext
  blk_simp
  fin_cases a <;> simp [Window.index, win1_0, cc1_transform_0]

theorem t1 (t : Fin cfg1.N) (i : S128x32.Idx) : tAt1 V t i = V main_arg1 i := by
  unfold tAt1 stg1
  rw [fill_at (cfg1.win 3) _ _ _ i (fun a => (i a).isLt)]
  blk_simp
  refine congrArg _ (funext fun a => ?_)
  apply Fin.ext
  blk_simp
  fin_cases a <;> simp [Window.index, win1_3, cc1_transform_3]

theorem w1 (t : Fin cfg1.N) (d : FVec Ideal S512x64 .bf16) (q : Fin 512) (e : Fin 64) (h : t.val * 512 + q.val < 100000) :
    wAt1 V t d (ix2 q e) = V main_v2 (ix2 ⟨t.val * 512 + q.val, h⟩ e) := by
  unfold wAt1 stg1
  rw [fill_at (cfg1.win 1) _ _ _ (ix2 q e) (fun a => by
    refine lt_of_lt_of_eq ?_ (xsize1_1 t a).symm
    fin_cases a
    · show q.val < if t.val = 195 then 160 else 512
      split <;> omega
    · exact e.isLt)]
  blk_simp
  refine congrArg _ (funext fun a => ?_)
  apply Fin.ext
  blk_simp
  rw [index1_1]
  fin_cases a <;> simp [ix2]

theorem b1 (t : Fin cfg1.N) (d : FVec Ideal S1x512 .f32) (q : Fin 512) (h : t.val * 512 + q.val < 100000) :
    bAt1 V t d (ix2 0 q) = V main_v3 (ix2 0 ⟨t.val * 512 + q.val, h⟩) := by
  unfold bAt1 stg1
  rw [fill_at (cfg1.win 2) _ _ _ (ix2 0 q) (fun a => by
    refine lt_of_lt_of_eq ?_ (xsize1_2 t a).symm
    fin_cases a
    · exact Nat.one_pos
    · show q.val < if t.val = 195 then 160 else 512
      split <;> omega)]
  blk_simp
  refine congrArg _ (funext fun a => ?_)
  apply Fin.ext
  blk_simp
  rw [index1_2]
  fin_cases a <;> simp [ix2]

theorem d1 (t : Fin cfg1.N) (i : S4096x1.Idx) : dAt1 V t i = V main_v4 i := by
  unfold dAt1 stg1
  rw [fill_at (cfg1.win 4) _ _ _ i (fun a => (i a).isLt)]
  blk_simp
  refine congrArg _ (funext fun a => ?_)
  apply Fin.ext
  blk_simp
  fin_cases a <;> simp [Window.index, win1_4, cc1_transform_4]

/-- What the arrays the calls stage hold: the arguments, flattened where the calls take them flat. -/
structure Entry (V : Vals Ideal c) (x : FVec Ideal S128x32x64 .f32) (tgt : IVec S128x32 32) (W : FVec Ideal S100000x64 .f32)
    (b : FVec Ideal S100000 .f32) : Prop where
  x : ∀ r d, (V main_v1 (ix2 r d) : EReal) = x (ix3 (seqOf r) (posOf r) d)
  tgt : ∀ i, V main_arg1 i = tgt i
  W : ∀ i, (V main_v2 i : EReal) = W i
  b : ∀ n, (V main_v3 (ix2 0 n) : EReal) = b (ix1 n)

variable {V}
variable {x : FVec Ideal S128x32x64 .f32} {tgt : IVec S128x32 32} {W : FVec Ideal S100000x64 .f32} {b : FVec Ideal S100000 .f32}

theorem Entry.staged0 (he : Entry V x tgt W b) (t : Fin cfg0.N) (dw : FVec Ideal S512x64 .bf16) (db : FVec Ideal S1x512 .f32) :
    Staged x W b t.val (xAt0 V t) (wAt0 V t dw) (bAt0 V t db) :=
  ⟨fun r d => (x0 V t _).trans (he.x r d), fun q d h => (w0 V t dw q d h).trans (he.W _), fun q h => (b0 V t db q h).trans (he.b _)⟩

theorem Entry.targets0 (he : Entry V x tgt W b) (t : Fin cfg0.N) : tAt0 V t = tgt :=
  funext fun i => (t0 V t i).trans (he.tgt i)

theorem Entry.staged1 (he : Entry V x tgt W b) (t : Fin cfg1.N) (dw : FVec Ideal S512x64 .bf16) (db : FVec Ideal S1x512 .f32) :
    Staged x W b t.val (xAt1 V t) (wAt1 V t dw) (bAt1 V t db) :=
  ⟨fun r d => (x1 V t _).trans (he.x r d), fun q d h => (w1 V t dw q d h).trans (he.W _), fun q h => (b1 V t db q h).trans (he.b _)⟩

theorem Entry.targets1 (he : Entry V x tgt W b) (t : Fin cfg1.N) : tAt1 V t = tgt :=
  funext fun i => (t1 V t i).trans (he.tgt i)

end Cert.Reads
-- ==== Proof.Val.Denom.lean ====
/-
  The running maximum and sum of the first call, point by point, and the log-normalisers it stores at the last one.
-/
module

public import proofs.«01_k».proof.Proof.Val.Reads
public import proofs.«01_k».proof.Proof.KI.Regs
public import Idealize.ShloMosaic.Lib.Pipeline.ArrRel

@[expose] public section

set_option maxRecDepth 16384

noncomputable section

namespace Cert.Denoms

open Cert.KernelIdeal Cert.KernelIdeal.Gen
open Cert.KIRun Cert.Mask Cert.Row Cert.Spec Cert.Step Cert.Reads
open Idealize.ShloMosaic hiding ix1 ix2 ix3
open Idealize.ShloMosaic.TcCoe
open Idealize.ShloMosaic.ValueIdx

variable {c : Dev nD} {V : Vals Ideal c}
variable {x : FVec Ideal S128x32x64 .f32} {tgt : IVec S128x32 32} {W : FVec Ideal S100000x64 .f32} {b : FVec Ideal S100000 .f32}

/-- The staged operands at a point, with the block's number read off the point's coordinates. -/
theorem staged_at (he : Entry V x tgt W b) (t : Fin cfg0.N) (dw : FVec Ideal S512x64 .bf16) (db : FVec Ideal S1x512 .f32) :
    Staged x W b ((grid0.coords t) 0).val (xAt0 V t) (wAt0 V t dw) (bAt0 V t db) := by
  rw [coords0]; exact he.staged0 t dw db

/-- After a point the scratch buffers stand for the weight of one block more: after the first point from the fresh
buffers, after a later one from what they held. -/
theorem step (hr : Real3 x W b) (he : Entry V x tgt W b) (t : Fin cfg0.N) (dw : FVec Ideal S512x64 .bf16) (db : FVec Ideal S1x512 .f32)
    (m l : FVec Ideal S4096x1 .f32) (r : Fin 4096)
    (h0 : t.val = 0 → (m (ix2 r 0) : EReal) = ⊥ ∧ (l (ix2 r 0) : EReal) = 0)
    (hs : t.val ≠ 0 → Stands (m (ix2 r 0)) (l (ix2 r 0)) (total x tgt W b r (t.val * 512))) :
    Stands (newM (grid0.coords t) (tAt0 V t) (xAt0 V t) (wAt0 V t dw) (bAt0 V t db) m (ix2 r 0))
      (newL (grid0.coords t) (tAt0 V t) (xAt0 V t) (wAt0 V t dw) (bAt0 V t db) m l (ix2 r 0))
      (total x tgt W b r ((t.val + 1) * 512)) := by
  have hst := staged_at he t dw db
  rw [he.targets0, newL_row _ hst, newM_row _ hst, coords0]
  by_cases h : t.val = 0
  · obtain ⟨hm, hl⟩ := h0 h
    rw [hm, hl, h, total_block]
    rw [show total x tgt W b r (0 * 512) = 0 from by simp [total], zero_add]
    refine stands_first (fun q : Fin 512 => z x tgt W b r (0 * 512 + q.val)) (fun q => z_ne_top hr r _) ?_
    obtain ⟨q, hq⟩ := exists_real (tgt := tgt) hr r
    exact ⟨q, by simpa using hq⟩
  · rw [total_block]
    exact stands_next (hs h) (fun q : Fin 512 => z x tgt W b r (t.val * 512 + q.val)) (fun q => z_ne_top hr r _)

/-- What the scratch buffers may hold after the first `n` points. -/
theorem reach (hr : Real3 x W b) (he : Entry V x tgt W b) (n : ℕ) : ∀ (m l : FVec Ideal S4096x1 .f32), Reach V n m l → n ≠ 0 →
    ∀ r, Stands (m (ix2 r 0)) (l (ix2 r 0)) (total x tgt W b r (n * 512)) := by
  induction n with
  | zero => intro m l _ h; exact absurd rfl h
  | succ n ih =>
    intro m' l' hR _ r
    obtain ⟨h, m, l, dw, db, hm, rfl, rfl⟩ := hR
    refine step hr he ⟨n, h⟩ dw db _ _ r ?_ ?_
    · intro hn
      rw [if_pos hn, if_pos hn]; exact ⟨pay7_row r, pay8_row r⟩
    · intro hn
      rw [if_neg hn, if_neg hn]; exact ih m l hm hn r

/-- What the last point stores. -/
theorem denom (hr : Real3 x W b) (he : Entry V x tgt W b) (t : Fin cfg0.N) (ht : t.val = 195) (X : FVec Ideal S4096x1 .f32)
    (hX : Denom V t X) (r : Fin 4096) : (X (ix2 r 0) : EReal) = ((Real.log (total x tgt W b r 100000) : ℝ) : EReal) := by
  obtain ⟨m, l, dw, db, hR, rfl⟩ := hX
  rw [newD_row]
  have := step hr he t dw db m l r (fun h => by omega) (fun h => reach hr he t.val m l hR h r)
  rw [ht, show 195 + 1 = 196 from rfl, total_past] at this
  exact stands_log this (total_pos hr r)

theorem last_whole : (cfg0.win 4).WholeAt ⟨195, by decide⟩ := by decide +kernel

variable {W₀ W₁ : Vs Ideal}

/-- The log-normalisers the first call leaves in its result. -/
theorem left0 (hr : Real3 x W b) (he : Entry (refs W₀ c) x tgt W b) (A : FVec Ideal S4096x1 .f32) (hA : Left0 W₀ c A) (r : Fin 4096) :
    (A (ix2 r 0) : EReal) = ((Real.log (total x tgt W b r 100000) : ℝ) : EReal) := by
  unfold Left0 at hA
  obtain ⟨X, hX, hj⟩ := Pipeline.RDat.ArrAt.emb_eq_of_wholeAt hA last_whole
  have hD := (dat0 (refs W₀ c)).toRRel_leaves (Rl := Rl0 (refs W₀ c)) (fgt := fgt0) (w := 4) rfl hX
  exact (hj (ix2 r 0)).trans (denom hr he ⟨195, by decide⟩ rfl X (hD rfl) r)

theorem index1_5 : ∀ t : Fin cfg1.N, win1_5.index t = ![0, t.val] := by decide +kernel
theorem covers : (cfg1.win 5).Covers := by decide +kernel

theorem coords1 : ∀ t : Fin cfg1.N, ((grid1.coords t) 0).val = t.val := by decide +kernel

/-- The staged operands of the second call at a point, with the block's number read off the point's coordinates. -/
theorem staged_at1 (he : Entry V x tgt W b) (t : Fin cfg1.N) (dw : FVec Ideal S512x64 .bf16) (db : FVec Ideal S1x512 .f32) :
    Staged x W b ((grid1.coords t) 0).val (xAt1 V t) (wAt1 V t dw) (bAt1 V t db) := by
  rw [coords1]; exact he.staged1 t dw db

/-- A block the second call stores, given the log-normalisers. -/
theorem out_row (he : Entry V x tgt W b)
    (hd : ∀ r, (V main_v4 (ix2 r 0) : EReal) = ((Real.log (total x tgt W b r 100000) : ℝ) : EReal))
    (t : Fin cfg1.N) (X : FVec Ideal S4096x512 .f32) (hX : OutAt V t X) (r : Fin 4096) (q : Fin 512) (h : t.val * 512 + q.val < 100000) :
    (X (ix2 r q) : EReal) = value x tgt W b r ⟨t.val * 512 + q.val, h⟩ := by
  obtain ⟨dw, db, rfl⟩ := hX
  rw [he.targets1, stored1 _ _ (staged_at1 he t dw db), coords1, d1, hd]
  rfl

theorem emb0 (t : Fin cfg1.N) (y : ((cfg1.win 5).xblock (cfg1.grid.coords t)).Idx) :
    (((cfg1.win 5).blk t).view.emb y 0).val = (y 0).val := by
  blk_simp; rw [index1_5]
  exact (congrArg (· + (y 0).val) (Nat.zero_mul 4096)).trans (Nat.zero_add _)
theorem emb1 (t : Fin cfg1.N) (y : ((cfg1.win 5).xblock (cfg1.grid.coords t)).Idx) :
    (((cfg1.win 5).blk t).view.emb y 1).val = t.val * 512 + (y 1).val := by
  blk_simp; rw [index1_5]; rfl

/-- The result, flat. -/
def whole (x : FVec Ideal S128x32x64 .f32) (tgt : IVec S128x32 32) (W : FVec Ideal S100000x64 .f32) (b : FVec Ideal S100000 .f32)
    (i : S4096x100000.Idx) : EReal := value x tgt W b (i 0) (i 1)

/-- The result the second call leaves. -/
theorem left1 (he : Entry (refs W₁ c) x tgt W b)
    (hd : ∀ r, (refs W₁ c main_v4 (ix2 r 0) : EReal) = ((Real.log (total x tgt W b r 100000) : ℝ) : EReal))
    (B : FVec Ideal S4096x100000 .f32) (hB : Left1 W₁ c B) (i : S4096x100000.Idx) :
    (B i : EReal) = whole x tgt W b i := by
  unfold Left1 at hB
  obtain ⟨X, hX, hE⟩ := Pipeline.RDat.ArrAt.exists_exact hB
  have e := hE (Function.update (fun _ _ _ => Classical.arbitrary _) 5 X) fun u _ _ => by rw [Function.update_self]
  refine (congrFun e i).trans ?_
  refine congrFun (Pipeline.Dat.arrAt_eq_of_covers (((dat1 (refs W₁ c)).toRRel fgt1 (Rl1 (refs W₁ c))).withAfter (Function.update (fun _ _ _ => Classical.arbitrary _) 5 X)) 5 (whole x tgt W b) covers (fun t hf y => ?_)) i
  have hO := (dat1 (refs W₁ c)).toRRel_leaves (Rl := Rl1 (refs W₁ c)) (fgt := fgt1) (w := 5) rfl (hX t t.isLt hf)
  rw [Pipeline.RDat.withAfter_after, Function.update_self]
  have e0 := emb0 t y
  have e1 := emb1 t y
  have h1 : (y 1).val < 512 := lt_of_lt_of_le (y 1).isLt ((cfg1.win 5).xsize_le (cfg1.grid.coords t) 1)
  have h0 : (y 0).val < 4096 := lt_of_lt_of_le (y 0).isLt ((cfg1.win 5).xsize_le (cfg1.grid.coords t) 0)
  have hb : t.val * 512 + (y 1).val < 100000 := by rw [← e1]; exact (((cfg1.win 5).blk t).view.emb y 1).isLt
  have ho := out_row he hd t (X t) hO ⟨(y 0).val, h0⟩ ⟨(y 1).val, h1⟩ hb
  refine (congrArg (X t) (?_ : (cfg1.win 5).xinj (cfg1.grid.coords t) y = ix2 ⟨(y 0).val, h0⟩ ⟨(y 1).val, h1⟩)).trans (ho.trans ?_)
  · funext a; fin_cases a <;> rfl
  · unfold whole
    exact congrArg₂ (value x tgt W b) (Fin.ext e0.symm) (Fin.ext e1.symm)

end Cert.Denoms
-- ==== Proof.Val.Entries.lean ====
/-
  What the host's operations around the two calls compute: the calls' entry arrays from the arguments, and the result's
  shape from the flat one. With the two calls' values: the result, element by element.
-/
module

public import proofs.«01_k».proof.Proof.Val.Denom
public import proofs.«01_k».proof.Proof.KI.Run
public import Idealize.ShloMosaic.Lib.ValueLayout

@[expose] public section

set_option maxRecDepth 16384

noncomputable section

namespace Cert.Entries

open Cert.KernelIdeal Cert.KernelIdeal.Gen
open Cert.KIRun Cert.Mask Cert.Row Cert.Spec Cert.Step Cert.Reads Cert.Denoms
open Idealize.ShloMosaic hiding ix1 ix2 ix3
open Idealize.ShloMosaic.TcCoe
open Idealize.ShloMosaic.ValueIdx

variable (m : (ℓ : Loc nD τ sig) → Buf (Elt Ideal) ℓ) (c : Dev nD)

/-- The arguments as launched. -/
abbrev xOf : FVec Ideal S128x32x64 .f32 := m ((c : Thread nD τ).loc main_arg0)
abbrev tgtOf : IVec S128x32 32 := m ((c : Thread nD τ).loc main_arg1)
abbrev WOf : FVec Ideal S100000x64 .f32 := m ((c : Thread nD τ).loc main_arg2)
abbrev bOf : FVec Ideal S100000 .f32 := m ((c : Thread nD τ).loc main_arg3)

theorem v1_eq : refs (W1 m) c main_v1 = truncf .bf16 (shapeCast S4096x64 (xOf m c) shapeCasts_S128x32x64_S4096x64) bitsLt_bf16_f32 := by
  show StableHlo.after hostOps0 (V0 m c) (Proc.devRef .tc main_v1) = _
  after_results
  rfl

theorem v2_eq : refs (W1 m) c main_v2 = truncf .bf16 (WOf m c) bitsLt_bf16_f32 := by
  show StableHlo.after hostOps0 (V0 m c) (Proc.devRef .tc main_v2) = _
  after_results

theorem v3_eq : refs (W1 m) c main_v3 = shapeCast S1x100000 (bOf m c) shapeCasts_S100000_S1x100000 := by
  show StableHlo.after hostOps0 (V0 m c) (Proc.devRef .tc main_v3) = _
  after_results
  rfl

theorem flat_row (r : Fin 4096) (d : Fin 64) (X : FVec Ideal S128x32x64 .f32) :
    shapeCast S4096x64 X shapeCasts_S128x32x64_S4096x64 (ix2 r d) = X (ix3 (seqOf r) (posOf r) d) :=
  shapeCast_apply X _ _ _ (by
    rw [Shape.rowMajor_val_three, Shape.rowMajor_val_two]
    show (r.val / 32 * 32 + r.val % 32) * 64 + d.val = r.val * 64 + d.val
    omega)

theorem entry1 : Entry (refs (W1 m) c) (xOf m c) (tgtOf m c) (WOf m c) (bOf m c) where
  x r d := by rw [v1_eq]; exact flat_row r d _
  tgt i := congrFun (V1_of m c main_arg1 (by decide)) i
  W i := by rw [v2_eq]; rfl
  b n := by rw [v3_eq]; exact shapeCast_a_1a_apply _ _ _ _

theorem entry2 (A : FVec Ideal S4096x1 .f32) : Entry (refs (W2 m A) c) (xOf m c) (tgtOf m c) (WOf m c) (bOf m c) := by
  have e (b : Ref sig .tc) (h : Proc.devRef (τ := τ) .tc b ≠ Proc.devRef (τ := τ) .tc main_v4) : refs (W2 m A) c b = refs (W1 m) c b := by
    unfold refs W2 put4
    exact Function.update_of_ne h _ _
  exact ⟨fun r d => by rw [e main_v1 (by decide)]; exact (entry1 m c).x r d,
    fun i => by rw [e main_arg1 (by decide)]; exact (entry1 m c).tgt i,
    fun i => by rw [e main_v2 (by decide)]; exact (entry1 m c).W i,
    fun n => by rw [e main_v3 (by decide)]; exact (entry1 m c).b n⟩

/-- The flat row of a sequence's position. -/
def rowOf (s : Fin 128) (p : Fin 32) : Fin 4096 := ⟨s.val * 32 + p.val, by omega⟩

theorem seqOf_rowOf (s : Fin 128) (p : Fin 32) : seqOf (rowOf s p) = s := Fin.ext (by show (s.val * 32 + p.val) / 32 = s.val; omega)
theorem posOf_rowOf (s : Fin 128) (p : Fin 32) : posOf (rowOf s p) = p := Fin.ext (by show (s.val * 32 + p.val) % 32 = p.val; omega)

/-- The result. -/
def result (x : FVec Ideal S128x32x64 .f32) (tgt : IVec S128x32 32) (W : FVec Ideal S100000x64 .f32) (b : FVec Ideal S100000 .f32) :
    FVec Ideal S128x32x100000 .f32 := fun i => value x tgt W b (rowOf (i 0) (i 1)) (i 2)

theorem v6_eq (A : FVec Ideal S4096x1 .f32) (B : FVec Ideal S4096x100000 .f32) :
    StableHlo.after hostOps2 (W3 m A B c) (Proc.devRef .tc main_v6) = shapeCast S128x32x100000 B shapeCasts_S4096x100000_S128x32x100000 := by
  after_results
  unfold W3 put5
  rw [Function.update_self]
  rfl

/-- The program ends with the result in its result's array. -/
theorem ends_result (hr : Real3 (xOf m c) (WOf m c) (bOf m c)) {s : MemSt nD τ sig (Elt Ideal)} (h : Ends m c s) :
    s.mem ((c : Thread nD τ).loc main_v6) = result (xOf m c) (tgtOf m c) (WOf m c) (bOf m c) := by
  obtain ⟨A, B, ⟨hA, hB⟩, h⟩ := h
  refine (h _ (Finset.mem_filter.mpr ⟨StableHlo.devRef_mem_tcRefs main_v6, by decide⟩)).trans ?_
  rw [v6_eq]
  have hd := left0 hr (entry1 m c) A hA
  have hw := left1 (entry2 m c A) (fun r => (congrFun (Function.update_self _ _ _) _).trans (hd r)) B hB
  funext i
  refine (shapeCast_apply B _ i (ix2 (rowOf (i 0) (i 1)) (i 2)) ?_).trans (hw _)
  rw [Shape.rowMajor_val_three, Shape.rowMajor_val_two]
  rfl

end Cert.Entries
-- ==== Proof.Val.Given.lean ====
/-
  What the precondition says of the arguments: the activations, weights and bias are real numbers, and each target is
  the number of a column.
-/
module

public import proofs.«01_k».proof.Defs
public import proofs.«01_k».proof.Proof.Gen.Pre_finite_in_range
public import proofs.«01_k».proof.Proof.Val.Entries
public import Idealize.ShloMosaic.Lib.WordCmp

@[expose] public section

noncomputable section

namespace Cert.Given

open Cert.KernelIdeal
open Cert.Spec Cert.Entries
open Idealize.ShloMosaic
open Idealize.ShloMosaic.TcCoe
open Idealize.ShloMosaic.WordCmp

theorem infinity : Ideal.ofBits .f32 0x7F800000#32 = (⊤ : EReal) := by simp [Ideal.ofBits, Ideal.ieee]

theorem of_ofBool {p : Prop} [Decidable p] (h : BitVec.ofBool (decide p) = 1#1) : p := by
  by_contra hp
  rw [decide_eq_false hp] at h
  exact absurd h (by decide)

/-- An extended real whose absolute value is below +∞ is a real number. -/
theorem real_of_abs_lt {v : EReal} (h : max v (-v) < ⊤) : ∃ u : ℝ, v = (u : EReal) := by
  induction v with
  | bot => exact absurd h (by simp)
  | top => exact absurd h (by simp)
  | coe u => exact ⟨u, rfl⟩

theorem real_of_cmp {v w : EReal} (hw : w = ⊤) (h : FloatOps.cmpf (F := Ideal) (φ := .f32) .olt (max v (-v) : EReal) w = 1#1) : ∃ u : ℝ, v = (u : EReal) := by
  subst hw
  exact real_of_abs_lt (of_ofBool h)

theorem target_of_cmp {w : BitVec 32} (h : IntOp.andi (IntOp.cmpi .sge w 0#32) (IntOp.cmpi .slt w 100000#32) = 1#1) : w.toNat < 100000 := by
  rw [andi_sge_zero_slt_ofNat (k := 100000) (by decide)] at h
  exact of_ofBool h

variable {m : (ℓ : Loc nD τ sig) → Buf (Elt Ideal) ℓ}

theorem given [Cert.Pre_finite_in_range.Facts] (h : Cert.Pre_KernelIdeal_finite_in_range m) (c : Dev nD) :
    Real3 (xOf m c) (WOf m c) (bOf m c) ∧ ∀ i, (tgtOf m c i).toNat < 100000 := by
  obtain ⟨h0, h1, h2, h3⟩ := h c
  exact ⟨⟨fun i => real_of_cmp infinity (congrFun h0 i), fun i => real_of_cmp infinity (congrFun h2 i), fun i => real_of_cmp infinity (congrFun h3 i)⟩,
    fun i => target_of_cmp (congrFun h1 i)⟩

end Cert.Given
end
-- ==== Proof.Val.RefMask.lean ====
/-
  The reference's two scatters read at an index: the first puts −∞ in columns 0 and 1, the second in the columns a
  position's earlier targets name. The second one's table of column numbers holds, for sequence `s`, position `i` and
  `j`, the target `(s, j)` where `j ≤ i`, and 0 elsewhere.
-/
module

public import proofs.«01_k».proof.Proof.Gen.ReferenceIdeal.Run
public import Idealize.ShloMosaic.Lib.Routing.OpsSet
public import Idealize.ShloMosaic.Lib.Routing.OpsPair
public import Idealize.ShloMosaic.Lib.ValueIdx
public import Idealize.ShloMosaic.Lib.ValueLayout
public import Idealize.ShloMosaic.Lib.IdealHost
public import Idealize.ShloMosaic.Lib.WordCmp
public import Idealize.ShloMosaic.Lib.Pipeline.Value

@[expose] public section

set_option maxRecDepth 16384

noncomputable section

namespace Cert.RefMask

open Cert.ReferenceIdeal Cert.ReferenceIdeal.Facts₀
open Idealize.ShloMosaic
open Idealize.ShloMosaic.ValueIdx Idealize.ShloMosaic.WordCmp
open Idealize.ShloMosaic.Routing

variable (tgt : IVec S128x32 32)

/-- The targets, repeated for every position. -/
def repeated : IVec S128x32x32 32 :=
  shapeCast _ (shapeCast _ (broadcastInDim S1x128x32x32 ![0, 1, 2, 3] bcast_S1x128x1x32_S1x128x32x32_0_1_2_3 (shapeCast _ tgt shapeCasts_S128x32_S1x128x1x32)) shapeCasts_S1x128x32x32_S128x1024) shapeCasts_S128x1024_S128x32x32

/-- The lower triangle. -/
def lower : IVec S128x32x32 1 :=
  broadcastInDim S128x32x32 ![1, 2] bcast_S32x32_S128x32x32_1_2 (cmpi .sge (addi (iotaInDim S32x32 32 0) (broadcastInDim S32x32 ![] bcast_S_S32x32 (constantI S_ 32 0#32))) (iotaInDim S32x32 32 1))

/-- The table of column numbers. -/
def columns : IVec S128x32x32 32 :=
  select lower (repeated tgt) (broadcastInDim S128x32x32 ![] bcast_S_S128x32x32 (constantI S_ 32 0#32))

/-- The three components of the second scatter's indices, each with negative numbers counted from the end. -/
def seqs : IVec S128x32x32x1 32 :=
  broadcastInDim S128x32x32x1 ![0, 1, 2] bcast_S128x32x32_S128x32x32x1_0_1_2 (broadcastInDim S128x32x32 ![0, 1, 2] bcast_S128x1x1_S128x32x32_0_1_2 (select (cmpi .slt (broadcastInDim S128x1x1 ![0] bcast_S128_S128x1x1_0 (iotaInDim S128 32 0)) (broadcastInDim S128x1x1 ![] bcast_S_S128x1x1 (constantI S_ 32 0#32))) (addi (broadcastInDim S128x1x1 ![0] bcast_S128_S128x1x1_0 (iotaInDim S128 32 0)) (broadcastInDim S128x1x1 ![] bcast_S_S128x1x1 (constantI S_ 32 128#32))) (broadcastInDim S128x1x1 ![0] bcast_S128_S128x1x1_0 (iotaInDim S128 32 0))))
def poss : IVec S128x32x32x1 32 :=
  broadcastInDim S128x32x32x1 ![0, 1, 2] bcast_S128x32x32_S128x32x32x1_0_1_2 (broadcastInDim S128x32x32 ![0, 1, 2] bcast_S1x32x1_S128x32x32_0_1_2 (select (cmpi .slt (broadcastInDim S1x32x1 ![1] bcast_S32_S1x32x1_1 (iotaInDim S32 32 0)) (broadcastInDim S1x32x1 ![] bcast_S_S1x32x1 (constantI S_ 32 0#32))) (addi (broadcastInDim S1x32x1 ![1] bcast_S32_S1x32x1_1 (iotaInDim S32 32 0)) (broadcastInDim S1x32x1 ![] bcast_S_S1x32x1 (constantI S_ 32 32#32))) (broadcastInDim S1x32x1 ![1] bcast_S32_S1x32x1_1 (iotaInDim S32 32 0))))
def cols : IVec S128x32x32x1 32 :=
  broadcastInDim S128x32x32x1 ![0, 1, 2] bcast_S128x32x32_S128x32x32x1_0_1_2 (select (cmpi .slt (columns tgt) (broadcastInDim S128x32x32 ![] bcast_S_S128x32x32 (constantI S_ 32 0#32))) (addi (columns tgt) (broadcastInDim S128x32x32 ![] bcast_S_S128x32x32 (constantI S_ 32 100000#32))) (columns tgt))

/-- The second scatter's indices. -/
def places : IVec S128x32x32x3 32 :=
  concatenate S128x32x32x3 3 [⟨S128x32x32x1, seqs⟩, ⟨S128x32x32x1, poss⟩, ⟨S128x32x32x1, cols tgt⟩] concatenates_S128x32x32x1_S128x32x32x1_S128x32x32x1_S128x32x32x3_d3

theorem repeated_apply (s : Fin 128) (i j : Fin 32) : repeated tgt (ix3 s i j) = tgt (ix2 s j) := by
  have hij : i.val * 32 + j.val < 1024 := by omega
  refine (shapeCast_apply _ _ (ix3 s i j) (ix2 s (⟨i.val * 32 + j.val, hij⟩ : Fin 1024)) ?_).trans ?_
  · rw [Shape.rowMajor_val_two, Shape.rowMajor_val_three]
    show s.val * 1024 + (i.val * 32 + j.val) = (s.val * 32 + i.val) * 32 + j.val
    omega
  refine (shapeCast_apply _ _ (ix2 s (⟨i.val * 32 + j.val, hij⟩ : Fin 1024)) (ix4 (0 : Fin 1) s i j) ?_).trans ?_
  · rw [Shape.rowMajor_val_two, Shape.rowMajor_val_four]
    show ((0 * 128 + s.val) * 32 + i.val) * 32 + j.val = s.val * 1024 + (i.val * 32 + j.val)
    omega
  refine (broadcastInDim_apply _ _ _ (ix4 (0 : Fin 1) s i j) (ix4 (0 : Fin 1) s (0 : Fin 1) j) ?_).trans ?_
  · intro a
    fin_cases a <;> rfl
  refine shapeCast_apply _ _ (ix4 (0 : Fin 1) s (0 : Fin 1) j) (ix2 s j) ?_
  rw [Shape.rowMajor_val_two, Shape.rowMajor_val_four]
  show s.val * 32 + j.val = ((0 * 128 + s.val) * 1 + 0) * 32 + j.val
  omega

theorem lower_apply (s : Fin 128) (i j : Fin 32) :
    lower (ix3 s i j) = BitVec.ofBool (decide (j.val ≤ i.val)) := by
  refine (broadcastInDim_apply _ _ _ (ix3 s i j) (ix2 i j) ?_).trans ?_
  · intro a
    fin_cases a <;> rfl
  show IntOp.cmpi .sge (BitVec.ofNat 32 i.val + 0#32) (BitVec.ofNat 32 j.val) = _
  rw [BitVec.add_zero]
  exact cmpi_sge_ofNat (by have := i.isLt; omega) (by have := j.isLt; omega)

theorem columns_apply (s : Fin 128) (i j : Fin 32) :
    columns tgt (ix3 s i j) = if j.val ≤ i.val then tgt (ix2 s j) else 0#32 := by
  show Scalar.select (lower (ix3 s i j)) (repeated tgt (ix3 s i j)) 0#32 = _
  rw [lower_apply, repeated_apply]
  by_cases h : j.val ≤ i.val
  · rw [if_pos h, decide_eq_true h]; rfl
  · rw [if_neg h, decide_eq_false h]; rfl

theorem columns_lt (hr : ∀ i, (tgt i).toNat < 100000) (s : Fin 128) (i j : Fin 32) :
    (columns tgt (ix3 s i j)).toNat < 100000 := by
  rw [columns_apply]
  split
  · exact hr _
  · decide

theorem seqs_apply (s : Fin 128) (i j : Fin 32) (u : Fin 1) : seqs (ix4 s i j u) = BitVec.ofNat 32 s.val := by
  refine (broadcastInDim_apply _ _ _ (ix4 s i j u) (ix3 s i j) ?_).trans ?_
  · intro a
    fin_cases a <;> rfl
  refine (broadcastInDim_apply _ _ _ (ix3 s i j) (ix3 s (0 : Fin 1) (0 : Fin 1)) ?_).trans ?_
  · intro a
    fin_cases a <;> rfl
  have h : broadcastInDim S128x1x1 ![0] bcast_S128_S128x1x1_0 (iotaInDim S128 32 0) (ix3 s (0 : Fin 1) (0 : Fin 1)) = BitVec.ofNat 32 s.val := by
    refine (broadcastInDim_apply _ _ _ (ix3 s (0 : Fin 1) (0 : Fin 1)) (ix1 s) ?_).trans rfl
    intro a
    fin_cases a <;> rfl
  refine (wrap_of_lt _ _ ?_).trans h
  rw [h, BitVec.toNat_ofNat]
  have := s.isLt
  omega

theorem poss_apply (s : Fin 128) (i j : Fin 32) (u : Fin 1) : poss (ix4 s i j u) = BitVec.ofNat 32 i.val := by
  refine (broadcastInDim_apply _ _ _ (ix4 s i j u) (ix3 s i j) ?_).trans ?_
  · intro a
    fin_cases a <;> rfl
  refine (broadcastInDim_apply _ _ _ (ix3 s i j) (ix3 (0 : Fin 1) i (0 : Fin 1)) ?_).trans ?_
  · intro a
    fin_cases a <;> rfl
  have h : broadcastInDim S1x32x1 ![1] bcast_S32_S1x32x1_1 (iotaInDim S32 32 0) (ix3 (0 : Fin 1) i (0 : Fin 1)) = BitVec.ofNat 32 i.val := by
    refine (broadcastInDim_apply _ _ _ (ix3 (0 : Fin 1) i (0 : Fin 1)) (ix1 i) ?_).trans rfl
    intro a
    fin_cases a <;> rfl
  refine (wrap_of_lt _ _ ?_).trans h
  rw [h, BitVec.toNat_ofNat]
  have := i.isLt
  omega

theorem cols_apply (hr : ∀ i, (tgt i).toNat < 100000) (s : Fin 128) (i j : Fin 32) (u : Fin 1) :
    cols tgt (ix4 s i j u) = columns tgt (ix3 s i j) := by
  refine (broadcastInDim_apply _ _ _ (ix4 s i j u) (ix3 s i j) ?_).trans ?_
  · intro a
    fin_cases a <;> rfl
  refine wrap_of_lt _ _ ?_
  have := columns_lt tgt hr s i j
  omega

/-- The three pieces. -/
abbrev pieces : List (Σ s : Shape, s.Idx → BitVec 32) := [⟨S128x32x32x1, seqs⟩, ⟨S128x32x32x1, poss⟩, ⟨S128x32x32x1, cols tgt⟩]

theorem piece_lt (k : Fin 3) : k.val < (pieces tgt).length := k.isLt

theorem places_0 (s : Fin 128) (i j : Fin 32) : places tgt (ix4 s i j (0 : Fin 3)) = BitVec.ofNat 32 s.val := by
  refine (concatenate_apply_piece (3 : Fin S128x32x32x3.rank) (pieces tgt) _ (ix4 s i j (0 : Fin 3)) 0 (piece_lt tgt 0) S128x32x32x1 seqs rfl rfl 0 rfl (ix4 s i j (0 : Fin 1)) ?_ ?_).trans (seqs_apply s i j 0)
  · intro b hb
    fin_cases b <;> first | rfl | exact absurd rfl hb
  · rfl

theorem places_1 (s : Fin 128) (i j : Fin 32) : places tgt (ix4 s i j (1 : Fin 3)) = BitVec.ofNat 32 i.val := by
  refine (concatenate_apply_piece (3 : Fin S128x32x32x3.rank) (pieces tgt) _ (ix4 s i j (1 : Fin 3)) 1 (piece_lt tgt 1) S128x32x32x1 poss rfl rfl 1 rfl (ix4 s i j (0 : Fin 1)) ?_ ?_).trans (poss_apply s i j 0)
  · intro b hb
    fin_cases b <;> first | rfl | exact absurd rfl hb
  · rfl

theorem places_2 (hr : ∀ i, (tgt i).toNat < 100000) (s : Fin 128) (i j : Fin 32) :
    places tgt (ix4 s i j (2 : Fin 3)) = columns tgt (ix3 s i j) := by
  refine (concatenate_apply_piece (3 : Fin S128x32x32x3.rank) (pieces tgt) _ (ix4 s i j (2 : Fin 3)) 2 (piece_lt tgt 2) S128x32x32x1 (cols tgt) rfl rfl 2 rfl (ix4 s i j (0 : Fin 1)) ?_ ?_).trans (cols_apply tgt hr s i j 0)
  · intro b hb
    fin_cases b <;> first | rfl | exact absurd rfl hb
  · rfl

/-- The scatter of the targets' columns. -/
abbrev dT := scatter_S128x32x100000_S128x32x32x3_S128x32x32_n_012_012_3
/-- The scatter of the first two columns. -/
abbrev dF := scatter_S128x32x100000_S1_S128x32x2_012_n_2_0

/-- Where an update of the targets' scatter reads its place. -/
theorem dT_siIdx (s : Fin 128) (i j : Fin 32) (a : Fin 3) (h : List.idxOf a dT.scatterDimsToOperandDims < dT.scatterDimsToOperandDims.length) :
    dT.siIdx (ix3 s i j) ⟨List.idxOf a dT.scatterDimsToOperandDims, h⟩ = ix4 s i j a := by
  funext b
  apply Fin.ext
  fin_cases b
  · rfl
  · rfl
  · rfl
  · fin_cases a <;> rfl

theorem dT_start (s : Fin 128) (i j : Fin 32) (idx : IVec S128x32x32x3 32) (a : Fin 3) :
    dT.start (ix3 s i j) idx a = (idx (ix4 s i j a)).toInt := by
  unfold ScatterDims.start
  have h : a ∈ dT.scatterDimsToOperandDims := by
    show a ∈ ([0, 1, 2] : List (Fin 3))
    fin_cases a <;> decide
  refine (dif_pos h).trans ?_
  rw [dT_siIdx]

theorem dT_window (k : S128x32x32.Idx) (a : Fin 3) : dT.window k a = 0 := by
  unfold ScatterDims.window
  refine dif_neg ?_
  intro h
  refine of_decide_eq_true (List.mem_filter.1 h).2 ?_
  show a ∈ ([0, 1, 2] : List (Fin 3))
  fin_cases a <;> decide

theorem dF_start (k : S128x32x2.Idx) (a : Fin 3) :
    dF.start k (broadcastInDim S1 ![] bcast_S_S1 (constantI S_ 32 0#32)) a = 0 := by
  unfold ScatterDims.start
  split
  · rfl
  · rfl

theorem dF_window (s : Fin 128) (i : Fin 32) (q : Fin 2) (a : Fin 3) : dF.window (ix3 s i q) a = ((ix3 s i q : S128x32x2.Idx) a).val := by
  unfold ScatterDims.window
  fin_cases a <;> rfl

theorem toInt_small {w : BitVec 32} (h : w.toNat < 100000) : w.toInt = (w.toNat : Int) := by
  rw [BitVec.toInt_eq_toNat_of_lt]
  omega

/-- Update `(s, i, j)` of the targets' scatter lands at `(s', p, c)`. -/
theorem dT_lands (hr : ∀ i, (tgt i).toNat < 100000) (s : Fin 128) (i j : Fin 32) (s' : Fin 128) (p : Fin 32) (c : Fin 100000) :
    dT.resultIdx? (ix3 s i j) (places tgt) = some (ix3 s' p c) ↔
      s = s' ∧ i = p ∧ (columns tgt (ix3 s i j)).toNat = c.val := by
  rw [resultIdx?_eq_some]
  have e0 : (BitVec.ofNat 32 s.val).toInt = (s.val : Int) := by
    rw [toInt_small] <;> rw [BitVec.toNat_ofNat] <;> have := s.isLt <;> omega
  have e1 : (BitVec.ofNat 32 i.val).toInt = (i.val : Int) := by
    rw [toInt_small] <;> rw [BitVec.toNat_ofNat] <;> have := i.isLt <;> omega
  have e2 := toInt_small (columns_lt tgt hr s i j)
  constructor
  · intro h
    have h0 := h (0 : Fin 3)
    have h1 := h (1 : Fin 3)
    have h2 := h (2 : Fin 3)
    rw [dT_start, dT_window] at h0 h1 h2
    rw [places_0, e0] at h0
    rw [places_1, e1] at h1
    rw [places_2 tgt hr, e2] at h2
    change (s.val : Int) + ((0 : ℕ) : Int) = (s'.val : Int) at h0
    change (i.val : Int) + ((0 : ℕ) : Int) = (p.val : Int) at h1
    change ((columns tgt (ix3 s i j)).toNat : Int) + ((0 : ℕ) : Int) = (c.val : Int) at h2
    exact ⟨Fin.ext (by omega), Fin.ext (by omega), by omega⟩
  · rintro ⟨rfl, rfl, h⟩ a
    rw [dT_start, dT_window]
    match a with
    | ⟨0, _⟩ =>
      refine (congrArg (fun v : Int => v + ((0 : ℕ) : Int)) ((congrArg BitVec.toInt (places_0 tgt s i j)).trans e0)).trans ?_
      show (s.val : Int) + ((0 : ℕ) : Int) = (s.val : Int)
      omega
    | ⟨1, _⟩ =>
      refine (congrArg (fun v : Int => v + ((0 : ℕ) : Int)) ((congrArg BitVec.toInt (places_1 tgt s i j)).trans e1)).trans ?_
      show (i.val : Int) + ((0 : ℕ) : Int) = (i.val : Int)
      omega
    | ⟨2, _⟩ =>
      refine (congrArg (fun v : Int => v + ((0 : ℕ) : Int)) ((congrArg BitVec.toInt (places_2 tgt hr s i j)).trans e2)).trans ?_
      show ((columns tgt (ix3 s i j)).toNat : Int) + ((0 : ℕ) : Int) = (c.val : Int)
      omega

/-- Update `(s, i, q)` of the first scatter lands at `(s', p, c)`. -/
theorem dF_lands (s : Fin 128) (i : Fin 32) (q : Fin 2) (s' : Fin 128) (p : Fin 32) (c : Fin 100000) :
    dF.resultIdx? (ix3 s i q) (broadcastInDim S1 ![] bcast_S_S1 (constantI S_ 32 0#32)) = some (ix3 s' p c) ↔
      s = s' ∧ i = p ∧ q.val = c.val := by
  rw [resultIdx?_eq_some]
  constructor
  · intro h
    have h0 := h (0 : Fin 3)
    have h1 := h (1 : Fin 3)
    have h2 := h (2 : Fin 3)
    rw [dF_start, dF_window] at h0 h1 h2
    change (0 : Int) + (s.val : Int) = (s'.val : Int) at h0
    change (0 : Int) + (i.val : Int) = (p.val : Int) at h1
    change (0 : Int) + (q.val : Int) = (c.val : Int) at h2
    exact ⟨Fin.ext (by omega), Fin.ext (by omega), by omega⟩
  · rintro ⟨rfl, rfl, h⟩ a
    rw [dF_start, dF_window]
    match a with
    | ⟨0, _⟩ =>
      show (0 : Int) + (s.val : Int) = (s.val : Int)
      omega
    | ⟨1, _⟩ =>
      show (0 : Int) + (i.val : Int) = (i.val : Int)
      omega
    | ⟨2, _⟩ =>
      show (0 : Int) + (q.val : Int) = (c.val : Int)
      omega

end Cert.RefMask
-- ==== Proof.Val.RefLogits.lean ====
/-
  The reference's masked logits, index by index, are the specification's: −∞ where the first scatter or the targets'
  one lands, the activations against the weights plus the bias elsewhere.
-/
module

public import proofs.«01_k».proof.Proof.Val.RefMask
public import proofs.«01_k».proof.Proof.Val.Entries

@[expose] public section

set_option maxRecDepth 16384

noncomputable section

namespace Cert.RefLogits

open Cert.ReferenceIdeal Cert.ReferenceIdeal.Facts₀
open Cert.RefMask Cert.Mask Cert.Spec Cert.Entries
open Idealize.ShloMosaic hiding ix1 ix2 ix3
open Idealize.ShloMosaic.ValueIdx
open Idealize.ShloMosaic.Routing (scatter_set_hit scatter_set_miss)
open scoped BigOperators

variable (x : FVec Ideal S128x32x64 .f32) (tgt : IVec S128x32 32) (W : FVec Ideal S100000x64 .f32) (b : FVec Ideal S100000 .f32)

/-- The logits before the masks. -/
def plainLogits : FVec Ideal S128x32x100000 .f32 :=
  addf (Host.dotGeneral dot_S128x32x64_S100000x64_S128x32x100000_2_1_01_0_n_n none x W)
    (broadcastInDim S128x32x100000 ![0, 1, 2] bcast_S1x1x100000_S128x32x100000_0_1_2 (broadcastInDim S1x1x100000 ![2] bcast_S100000_S1x1x100000_2 b))

/-- The logits after the first scatter. -/
def firstMasked : FVec Ideal S128x32x100000 .f32 :=
  Host.scatter scatter_S128x32x100000_S1_S128x32x2_012_n_2_0 (fun _ b => b) (plainLogits x W b)
    (broadcastInDim S1 ![] bcast_S_S1 (constantI S_ 32 0#32)) (broadcastInDim S128x32x2 ![] bcast_S_S128x32x2 (constant S_ .f32 0xFF800000#32))

/-- The logits after both. -/
def masked : FVec Ideal S128x32x100000 .f32 :=
  Host.scatter scatter_S128x32x100000_S128x32x32x3_S128x32x32_n_012_012_3 (fun _ b => b) (firstMasked x W b)
    (places tgt) (broadcastInDim S128x32x32 ![] bcast_S_S128x32x32 (constant S_ .f32 0xFF800000#32))

theorem exists_ix3 {p q r : ℕ} (k : (⟨3, ![p, q, r]⟩ : Shape).Idx) : ∃ (i : Fin p) (j : Fin q) (l : Fin r), k = ix3 i j l :=
  ⟨k 0, k 1, k 2, funext fun a => by fin_cases a <;> rfl⟩

theorem product_apply (s : Fin 128) (p : Fin 32) (n : Fin 100000) :
    Host.dotGeneral dot_S128x32x64_S100000x64_S128x32x100000_2_1_01_0_n_n none x W (ix3 s p n)
      = ∑ d : Fin 64, (x (ix3 s p d) : EReal) * (W (ix2 n d) : EReal) := by
  let D := dot_S128x32x64_S100000x64_S128x32x100000_2_1_01_0_n_n
  have hr : D.contr.rank = 1 := rfl
  have hs : D.contr.size ⟨0, by rw [hr]; exact Nat.one_pos⟩ = 64 := rfl
  refine (Ideal.dotGeneral_apply D none _ x W (ix3 s p n)).trans ?_
  refine (Equiv.sum_comp (contrEquiv1 D 64 hr hs).symm _).symm.trans ?_
  refine Finset.sum_congr rfl fun d _ => ?_
  have h0 := contrEquiv1_symm_val D 64 hr hs d
  have el : D.lhsIdx (ix3 s p n) ((contrEquiv1 D 64 hr hs).symm d) = ix3 s p d := by
    funext a; apply Fin.ext
    match a with
    | ⟨0, _⟩ => rfl
    | ⟨1, _⟩ => rfl
    | ⟨2, _⟩ => exact h0
  have er : D.rhsIdx (ix3 s p n) ((contrEquiv1 D 64 hr hs).symm d) = ix2 n d := by
    funext a; apply Fin.ext
    match a with
    | ⟨0, _⟩ => rfl
    | ⟨1, _⟩ => exact h0
  rw [el, er]

theorem bias_apply (s : Fin 128) (p : Fin 32) (n : Fin 100000) :
    broadcastInDim S128x32x100000 ![0, 1, 2] bcast_S1x1x100000_S128x32x100000_0_1_2 (broadcastInDim S1x1x100000 ![2] bcast_S100000_S1x1x100000_2 b) (ix3 s p n)
      = b (ix1 n) := by
  refine (broadcastInDim_apply _ _ _ (ix3 s p n) (ix3 (0 : Fin 1) (0 : Fin 1) n) ?_).trans ?_
  · intro a
    fin_cases a <;> rfl
  refine broadcastInDim_apply _ _ _ (ix3 (0 : Fin 1) (0 : Fin 1) n) (ix1 n) ?_
  intro a
  fin_cases a; rfl

theorem plainLogits_apply (s : Fin 128) (p : Fin 32) (n : Fin 100000) :
    plainLogits x W b (ix3 s p n) = logit x W b (rowOf s p) n := by
  unfold logit
  rw [seqOf_rowOf, posOf_rowOf]
  refine (show plainLogits x W b (ix3 s p n) = (Host.dotGeneral dot_S128x32x64_S100000x64_S128x32x100000_2_1_01_0_n_n none x W (ix3 s p n) : EReal) + (broadcastInDim S128x32x100000 ![0, 1, 2] bcast_S1x1x100000_S128x32x100000_0_1_2 (broadcastInDim S1x1x100000 ![2] bcast_S100000_S1x1x100000_2 b) (ix3 s p n) : EReal) from rfl).trans ?_
  rw [product_apply, bias_apply]

theorem fill2 (k : S128x32x2.Idx) :
    broadcastInDim S128x32x2 ![] bcast_S_S128x32x2 (constant (F := Ideal) S_ .f32 0xFF800000#32) k = (⊥ : EReal) := Step.neg_inf
theorem fill32 (k : S128x32x32.Idx) :
    broadcastInDim S128x32x32 ![] bcast_S_S128x32x32 (constant (F := Ideal) S_ .f32 0xFF800000#32) k = (⊥ : EReal) := Step.neg_inf

theorem firstMasked_hit (s : Fin 128) (p : Fin 32) (n : Fin 100000) (h : n.val < 2) :
    firstMasked x W b (ix3 s p n) = (⊥ : EReal) :=
  scatter_set_hit dF _ _ _ _ _ (fun k _ => fill2 k) (ix3 s p (⟨n.val, h⟩ : Fin 2)) ((dF_lands s p _ s p n).mpr ⟨rfl, rfl, rfl⟩)

theorem firstMasked_miss (s : Fin 128) (p : Fin 32) (n : Fin 100000) (h : ¬ n.val < 2) :
    firstMasked x W b (ix3 s p n) = logit x W b (rowOf s p) n := by
  refine (scatter_set_miss dF _ _ _ _ ?_).trans (plainLogits_apply x W b s p n)
  intro k hk
  obtain ⟨s', p', q, rfl⟩ := exists_ix3 k
  have := ((dF_lands s' p' q s p n).mp hk).2.2
  have := q.isLt
  omega

theorem masked_apply (hr : ∀ i, (tgt i).toNat < 100000) (s : Fin 128) (p : Fin 32) (n : Fin 100000) :
    masked x tgt W b (ix3 s p n) = z x tgt W b (rowOf s p) n.val := by
  by_cases hit : ∃ j : Fin 32, (columns tgt (ix3 s p j)).toNat = n.val
  · obtain ⟨j, hj⟩ := hit
    refine (scatter_set_hit dT _ _ _ _ (⊥ : EReal) (fun k _ => fill32 k) (ix3 s p j) ((dT_lands tgt hr s p j s p n).mpr ⟨rfl, rfl, hj⟩)).trans (Eq.symm ?_)
    refine z_masked _ ?_
    rw [columns_apply] at hj
    by_cases h : j.val ≤ p.val
    · rw [if_pos h] at hj
      refine Or.inr ⟨j, ?_, ?_⟩
      · rw [posOf_rowOf]; exact h
      · rw [seqOf_rowOf, ← hj, BitVec.ofNat_toNat, BitVec.setWidth_eq]
    · rw [if_neg h] at hj
      left
      rw [← hj]; decide
  · refine (scatter_set_miss dT _ _ _ _ ?_).trans ?_
    · intro k hk
      obtain ⟨s', p', j, rfl⟩ := exists_ix3 k
      obtain ⟨rfl, rfl, h⟩ := (dT_lands tgt hr s' p' j s p n).mp hk
      exact hit ⟨j, h⟩
    by_cases h2 : n.val < 2
    · exact (firstMasked_hit x W b s p n h2).trans (z_masked _ (Or.inl h2)).symm
    · refine (firstMasked_miss x W b s p n h2).trans (z_open _ n.isLt ?_).symm
      rintro (h | ⟨j, hj, e⟩)
      · exact h2 h
      · rw [posOf_rowOf] at hj
        rw [seqOf_rowOf] at e
        refine hit ⟨j, ?_⟩
        rw [columns_apply, if_pos hj, e, BitVec.toNat_ofNat]
        have := n.isLt
        omega

end Cert.RefLogits
end
-- ==== Proof.Val.RefRow.lean ====
/-
  The reference's softmax over a row: its maximum is a real number, which drops out, and its sum of exponentials is the
  row's total weight scaled; so the result is the specification's.
-/
module

public import proofs.«01_k».proof.Proof.Val.RefLogits

@[expose] public section

set_option maxRecDepth 16384

noncomputable section

namespace Cert.RefRow

open Cert.ReferenceIdeal Cert.ReferenceIdeal.Facts₀
open Cert.RefMask Cert.RefLogits Cert.Mask Cert.Row Cert.Spec Cert.Entries
open Idealize.ShloMosaic hiding ix1 ix2 ix3
open Idealize.ShloMosaic.ValueIdx
open scoped BigOperators

/-- A row's maximum, over the columns. -/
def top (Z : FVec Ideal S128x32x100000 .f32) : FVec Ideal S128x32x100000 .f32 :=
  broadcastInDim S128x32x100000 ![0, 1, 2] bcast_S128x32x1_S128x32x100000_0_1_2 (broadcastInDim S128x32x1 ![0, 1] bcast_S128x32_S128x32x1_0_1 (maximumf (broadcastInDim S128x32 ![] bcast_S_S128x32 (constant S_ .f32 0xFF800000#32)) (Host.reduce FloatOps.maximumf Z (constant S_ .f32 0xFF800000#32) reducesTo_S128x32x100000_S128x32_d2 h_S_)))

/-- The logarithm of a row's sum of exponentials. -/
def logSum (Y : FVec Ideal S128x32x100000 .f32) : FVec Ideal S128x32x100000 .f32 :=
  broadcastInDim S128x32x100000 ![0, 1, 2] bcast_S128x32x1_S128x32x100000_0_1_2 (Host.log (broadcastInDim S128x32x1 ![0, 1] bcast_S128x32_S128x32x1_0_1 (Host.reduceAdd (Host.exp Y) (constant S_ .f32 0x00000000#32) reducesTo_S128x32x100000_S128x32_d2 h_S_)))

theorem spread_apply {α : Type} (f : S128x32x1.Idx → α) (s : Fin 128) (p : Fin 32) (n : Fin 100000) :
    broadcastInDim S128x32x100000 ![0, 1, 2] bcast_S128x32x1_S128x32x100000_0_1_2 f (ix3 s p n) = f (ix3 s p (0 : Fin 1)) := by
  refine broadcastInDim_apply _ _ _ (ix3 s p n) (ix3 s p (0 : Fin 1)) ?_
  intro a
  fin_cases a <;> rfl

theorem unit_apply {α : Type} (f : S128x32.Idx → α) (s : Fin 128) (p : Fin 32) :
    broadcastInDim S128x32x1 ![0, 1] bcast_S128x32_S128x32x1_0_1 f (ix3 s p (0 : Fin 1)) = f (ix2 s p) := by
  refine broadcastInDim_apply _ _ _ (ix3 s p (0 : Fin 1)) (ix2 s p) ?_
  intro a
  fin_cases a <;> rfl

theorem reduces2 : S128x32x100000.Reduces [2] S128x32 := by decide

theorem lift_eq (s : Fin 128) (p : Fin 32) (n : Fin 100000) : reduces2.lift (ix2 s p) n = ix3 s p n := by
  funext a; apply Fin.ext
  match a with
  | ⟨0, _⟩ => rfl
  | ⟨1, _⟩ => rfl
  | ⟨2, _⟩ => rfl

theorem log_at {t : Shape} {φ : FTy} (f : FVec Ideal t φ) (i : t.Idx) : Host.log f i = Ideal.log (f i : EReal) := rfl
theorem exp_at {t : Shape} {φ : FTy} (f : FVec Ideal t φ) (i : t.Idx) : Host.exp f i = Ideal.exp (f i : EReal) := rfl
theorem max_at {t : Shape} {φ : FTy} (f g : FVec Ideal t φ) (i : t.Idx) : maximumf f g i = max (f i : EReal) (g i : EReal) := rfl
theorem sub_at {t : Shape} {φ : FTy} (f g : FVec Ideal t φ) (i : t.Idx) : subf f g i = (f i : EReal) - (g i : EReal) := rfl
theorem bot_at (i : S128x32.Idx) :
    broadcastInDim S128x32 ![] bcast_S_S128x32 (constant (F := Ideal) S_ .f32 0xFF800000#32) i = (⊥ : EReal) := Step.neg_inf
theorem bot_first : constant (F := Ideal) S_ .f32 0xFF800000#32 (Shape.Idx.first h_S_) = (⊥ : EReal) := Step.neg_inf

theorem reduceMax_apply (Z : FVec Ideal S128x32x100000 .f32) (s : Fin 128) (p : Fin 32) :
    Host.reduce FloatOps.maximumf Z (constant S_ .f32 0xFF800000#32) reducesTo_S128x32x100000_S128x32_d2 h_S_ (ix2 s p)
      = (Finset.univ : Finset (Fin 100000)).fold max (⊥ : EReal) fun k => (Z (ix3 s p k) : EReal) := by
  refine (Host.reduce_eq_fold_single FloatOps.maximumf Z _ reducesTo_S128x32x100000_S128x32_d2 reduces2 h_S_ (ix2 s p)).trans ?_
  rw [bot_first]
  have e : (Z ∘ reduces2.lift (ix2 s p)) = fun k : Fin 100000 => Z (ix3 s p k) := funext fun k => congrArg Z (lift_eq s p k)
  rw [e]
  rfl

theorem top_apply (Z : FVec Ideal S128x32x100000 .f32) (s : Fin 128) (p : Fin 32) (n : Fin 100000) :
    top Z (ix3 s p n) = max (⊥ : EReal) ((Finset.univ : Finset (Fin 100000)).fold max (⊥ : EReal) fun k => (Z (ix3 s p k) : EReal)) := by
  unfold top
  rw [spread_apply, unit_apply, max_at, bot_at, reduceMax_apply]

theorem reduceSum_apply (Y : FVec Ideal S128x32x100000 .f32) (s : Fin 128) (p : Fin 32) :
    Host.reduceAdd Y (constant S_ .f32 0x00000000#32) reducesTo_S128x32x100000_S128x32_d2 h_S_ (ix2 s p)
      = ∑ k : Fin 100000, (Y (ix3 s p k) : EReal) := by
  rw [hostReduceAdd_apply]
  refine (Ideal.hostReduceAdd_single reducesTo_S128x32x100000_S128x32_d2 reduces2 Y _ (ix2 s p)).trans ?_
  have z0 : constant (F := Ideal) S_ .f32 0x00000000#32 (Shape.Idx.first h_S_) = (0 : EReal) := Ideal.ofBits_zero_f32
  rw [z0, zero_add]
  exact Finset.sum_congr rfl fun k _ => congrArg Y (lift_eq s p k)

theorem logSum_apply (Y : FVec Ideal S128x32x100000 .f32) (s : Fin 128) (p : Fin 32) (n : Fin 100000) :
    logSum Y (ix3 s p n) = Ideal.log (∑ k : Fin 100000, Ideal.exp (Y (ix3 s p k) : EReal)) := by
  unfold logSum
  rw [spread_apply, log_at, unit_apply, reduceSum_apply]
  rfl

/-- The softmax of a row of logits, one of them real and none +∞. -/
theorem softmax_apply (Z : FVec Ideal S128x32x100000 .f32) (s : Fin 128) (p : Fin 32) (n : Fin 100000)
    (f : Fin 100000 → EReal) (hZ : ∀ k, Z (ix3 s p k) = f k) (hf : ∀ k, f k ≠ ⊤) (hr : ∃ k, f k ≠ ⊥) (hS : 0 < ∑ k, weight (f k)) :
    subf (subf Z (top Z)) (logSum (subf Z (top Z))) (ix3 s p n) = f n - ((Real.log (∑ k, weight (f k)) : ℝ) : EReal) := by
  obtain ⟨μ, hμ⟩ := fold_max_real f hf hr
  have ht : ∀ k : Fin 100000, top Z (ix3 s p k) = (μ : EReal) := fun k => by
    rw [top_apply, show (fun k => (Z (ix3 s p k) : EReal)) = f from funext hZ, hμ]
    exact max_eq_right bot_le
  have hy : ∀ k : Fin 100000, subf Z (top Z) (ix3 s p k) = f k - (μ : EReal) := fun k => by
    rw [sub_at, hZ, ht]
  rw [sub_at, hy, logSum_apply, show (fun k : Fin 100000 => Ideal.exp (subf Z (top Z) (ix3 s p k) : EReal)) = fun k => Ideal.exp (f k - (μ : EReal)) from funext fun k => congrArg Ideal.exp (hy k),
    sum_exp_sub f hf μ]
  exact shifted (hf n) μ hS

variable (x : FVec Ideal S128x32x64 .f32) (tgt : IVec S128x32 32) (W : FVec Ideal S100000x64 .f32) (b : FVec Ideal S100000 .f32)

/-- The reference's result is the specification's. -/
theorem reference_result (hr : Real3 x W b) (ht : ∀ i, (tgt i).toNat < 100000) :
    subf (subf (masked x tgt W b) (top (masked x tgt W b))) (logSum (subf (masked x tgt W b) (top (masked x tgt W b)))) = result x tgt W b := by
  funext i
  obtain ⟨s, p, n, rfl⟩ := exists_ix3 i
  have hp := total_pos (tgt := tgt) hr (rowOf s p)
  rw [total_fin] at hp
  obtain ⟨q, hq⟩ := exists_real (tgt := tgt) hr (rowOf s p)
  refine (softmax_apply (masked x tgt W b) s p n (fun k => z x tgt W b (rowOf s p) k.val) (fun k => masked_apply x tgt W b ht s p k)
    (fun k => z_ne_top hr _ _) ⟨⟨q.val, by have := q.isLt; omega⟩, hq⟩ hp).trans ?_
  show _ = value x tgt W b (rowOf s p) n
  unfold value
  rw [total_fin]

open Cert.ReferenceIdeal.Value in
/-- What the reference's run leaves in its result. -/
theorem left_eq (m : (ℓ : Loc nD τ sig) → Buf (Elt Ideal) ℓ) (c : Dev nD)
    (hr : Real3 (m ((c.tc : Thread nD τ).loc main_arg0)) (m ((c.tc : Thread nD τ).loc main_arg2)) (m ((c.tc : Thread nD τ).loc main_arg3)))
    (ht : ∀ i, ((m ((c.tc : Thread nD τ).loc main_arg1) : IVec S128x32 32) i).toNat < 100000) :
    res_main_v39 m c = result (m ((c.tc : Thread nD τ).loc main_arg0)) (m ((c.tc : Thread nD τ).loc main_arg1)) (m ((c.tc : Thread nD τ).loc main_arg2)) (m ((c.tc : Thread nD τ).loc main_arg3)) := by
  refine Eq.trans ?_ (reference_result _ _ _ _ hr ht)
  unfold res_main_v39
  rfl

end Cert.RefRow
end
-- ==== Proof.Val.Agree.lean ====
/-
  The kernel and the reference, launched on the same arguments, end with the same result: the specification's.
-/
module

public import proofs.«01_k».proof.Proof.Val.Given
public import proofs.«01_k».proof.Proof.Val.RefRow
public import proofs.«01_k».proof.Proof.KI.Frame

@[expose] public section

noncomputable section

namespace Cert.Agree

open Cert.Entries Cert.Given
open Idealize.ShloMosaic
open Idealize.SL.Sem

theorem agree [Cert.Pre_finite_in_range.Facts] : Cert.algebraic_KernelIdeal_ReferenceIdeal_pre_finite_in_range := by
  intro m g m' g' hp hm
  refine ⟨fun c => result (xOf m c) (tgtOf m c) (WOf m c) (bOf m c), ?_, ?_⟩
  · refine (θ_run _ _ _).mono (fun r h c => ?_) (Cert.KIRun.run_main m g)
    exact ⟨ends_result m c (given hp c).1 (h.1 c), (h.1 c).kept⟩
  · refine (θ_run _ _ _).mono (fun r h c => ?_) (Cert.ReferenceIdeal.Value.run m' g')
    obtain ⟨e0, e1, e2, e3⟩ := hm c
    obtain ⟨hr, ht⟩ := given hp c
    refine ⟨(h c).1.trans ?_, (h c).2⟩
    refine (Cert.RefRow.left_eq m' c (by rw [e0, e2, e3]; exact hr) (by rw [e1]; exact ht)).trans ?_
    rw [e0, e1, e2, e3]

end Cert.Agree
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_in_range
public import proofs.«01_k».proof.Proof.KI.Frame
public import proofs.«01_k».proof.Proof.K.Frame
public import proofs.«01_k».proof.Proof.Ref.Frame
public import proofs.«01_k».proof.Proof.Val.Agree
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_in_range.Gen.facts,
    fun m g _ => Cert.KRun.frame_main m g,
    fun m g _ => Cert.KIRun.frame_main m g,
    fun m g _ => Cert.KIRun.frame_main m g,
    fun m g _ => Cert.RefRun.frame_main m g,
    fun m g _ => Cert.RefRun.frame_main m g,
    trivial,
    Cert.Agree.agree⟩

end Cert.Proof

end
